-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x4096 : Shape := ⟨2, ![8192, 4096]⟩
abbrev S512x4096 : Shape := ⟨2, ![512, 4096]⟩
abbrev S16x512x512 : Shape := ⟨3, ![16, 512, 512]⟩
abbrev S2x512x4096 : Shape := ⟨3, ![2, 512, 4096]⟩
abbrev S16 : Shape := ⟨1, ![16]⟩
abbrev S2 : Shape := ⟨1, ![2]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x4096 : Shape := ⟨3, ![1, 512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x4096, .f32⟩
  | .local _ .vmem, ⟨0, _⟩ => ⟨S8192x512, .f32⟩
  | .local _ .vmem, ⟨1, _⟩ => ⟨S512x4096, .f32⟩
  | .local _ .vmem, ⟨2, _⟩ => ⟨S16x512x512, .f32⟩
  | .local _ .vmem, ⟨3, _⟩ => ⟨S2x512x4096, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_900 : BitVec 32 := 0#32
  let c0_i32_898 : BitVec 32 := 0#32
  let c1_i32_899 : BitVec 32 := 1#32
  let v832 : BitVec 32 := Scalar.muli c0_i32_898 c1_i32_899
  let v833 : BitVec 32 := Scalar.addi c0_i32_900 v832
  v833.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_900 : BitVec 32 := 0#32
  let c1_i32_898 : BitVec 32 := 1#32
  let c1_i32_899 : BitVec 32 := 1#32
  let v832 : BitVec 32 := Scalar.muli c1_i32_898 c1_i32_899
  let v833 : BitVec 32 := Scalar.addi c0_i32_900 v832
  v833.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_900 : BitVec 32 := 0#32
  let c2_i32_898 : BitVec 32 := 2#32
  let c1_i32_899 : BitVec 32 := 1#32
  let v832 : BitVec 32 := Scalar.muli c2_i32_898 c1_i32_899
  let v833 : BitVec 32 := Scalar.addi c0_i32_900 v832
  v833.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_900 : BitVec 32 := 0#32
  let c3_i32_898 : BitVec 32 := 3#32
  let c1_i32_899 : BitVec 32 := 1#32
  let v832 : BitVec 32 := Scalar.muli c3_i32_898 c1_i32_899
  let v833 : BitVec 32 := Scalar.addi c0_i32_900 v832
  v833.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_900 : BitVec 32 := 0#32
  let c4_i32_898 : BitVec 32 := 4#32
  let c1_i32_899 : BitVec 32 := 1#32
  let v832 : BitVec 32 := Scalar.muli c4_i32_898 c1_i32_899
  let v833 : BitVec 32 := Scalar.addi c0_i32_900 v832
  v833.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_900 : BitVec 32 := 0#32
  let c5_i32_898 : BitVec 32 := 5#32
  let c1_i32_899 : BitVec 32 := 1#32
  let v832 : BitVec 32 := Scalar.muli c5_i32_898 c1_i32_899
  let v833 : BitVec 32 := Scalar.addi c0_i32_900 v832
  v833.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_900 : BitVec 32 := 0#32
  let c6_i32_898 : BitVec 32 := 6#32
  let c1_i32_899 : BitVec 32 := 1#32
  let v832 : BitVec 32 := Scalar.muli c6_i32_898 c1_i32_899
  let v833 : BitVec 32 := Scalar.addi c0_i32_900 v832
  v833.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_900 : BitVec 32 := 0#32
  let c7_i32_898 : BitVec 32 := 7#32
  let c1_i32_899 : BitVec 32 := 1#32
  let v832 : BitVec 32 := Scalar.muli c7_i32_898 c1_i32_899
  let v833 : BitVec 32 := Scalar.addi c0_i32_900 v832
  v833.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_900 : BitVec 32 := 0#32
  let c8_i32_898 : BitVec 32 := 8#32
  let c1_i32_899 : BitVec 32 := 1#32
  let v832 : BitVec 32 := Scalar.muli c8_i32_898 c1_i32_899
  let v833 : BitVec 32 := Scalar.addi c0_i32_900 v832
  v833.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_900 : BitVec 32 := 0#32
  let c9_i32_898 : BitVec 32 := 9#32
  let c1_i32_899 : BitVec 32 := 1#32
  let v832 : BitVec 32 := Scalar.muli c9_i32_898 c1_i32_899
  let v833 : BitVec 32 := Scalar.addi c0_i32_900 v832
  v833.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_900 : BitVec 32 := 0#32
  let c10_i32_898 : BitVec 32 := 10#32
  let c1_i32_899 : BitVec 32 := 1#32
  let v832 : BitVec 32 := Scalar.muli c10_i32_898 c1_i32_899
  let v833 : BitVec 32 := Scalar.addi c0_i32_900 v832
  v833.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_900 : BitVec 32 := 0#32
  let c11_i32_898 : BitVec 32 := 11#32
  let c1_i32_899 : BitVec 32 := 1#32
  let v832 : BitVec 32 := Scalar.muli c11_i32_898 c1_i32_899
  let v833 : BitVec 32 := Scalar.addi c0_i32_900 v832
  v833.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_900 : BitVec 32 := 0#32
  let c12_i32_898 : BitVec 32 := 12#32
  let c1_i32_899 : BitVec 32 := 1#32
  let v832 : BitVec 32 := Scalar.muli c12_i32_898 c1_i32_899
  let v833 : BitVec 32 := Scalar.addi c0_i32_900 v832
  v833.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_900 : BitVec 32 := 0#32
  let c13_i32_898 : BitVec 32 := 13#32
  let c1_i32_899 : BitVec 32 := 1#32
  let v832 : BitVec 32 := Scalar.muli c13_i32_898 c1_i32_899
  let v833 : BitVec 32 := Scalar.addi c0_i32_900 v832
  v833.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_900 : BitVec 32 := 0#32
  let c14_i32_898 : BitVec 32 := 14#32
  let c1_i32_899 : BitVec 32 := 1#32
  let v832 : BitVec 32 := Scalar.muli c14_i32_898 c1_i32_899
  let v833 : BitVec 32 := Scalar.addi c0_i32_900 v832
  v833.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_900 : BitVec 32 := 0#32
  let c15_i32_898 : BitVec 32 := 15#32
  let c1_i32_899 : BitVec 32 := 1#32
  let v832 : BitVec 32 := Scalar.muli c15_i32_898 c1_i32_899
  let v833 : BitVec 32 := Scalar.addi c0_i32_900 v832
  v833.toNat
def k0_off1 (d0 : Dev nD) (c1_i32_18 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v52 : BitVec 32 := Scalar.addi v2 c1_i32_18
  let c16_i32_19 : BitVec 32 := 16#32
  let v53 : BitVec 32 := Scalar.remsi v52 c16_i32_19
  let c512_i32 : BitVec 32 := 512#32
  let v54 : BitVec 32 := Scalar.muli v53 c512_i32
  let c0_i32_27 : BitVec 32 := 0#32
  ![v54.toNat, 0]
def k0_dev17 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v52 : BitVec 32 := Scalar.addi v2 c1_i32_18
  let c16_i32_19 : BitVec 32 := 16#32
  let v53 : BitVec 32 := Scalar.remsi v52 c16_i32_19
  let c1_i32_23 : BitVec 32 := 1#32
  let v55 : BitVec 32 := Scalar.muli v53 c1_i32_23
  let v56 : BitVec 32 := Scalar.addi c0_i32_24 v55
  v56.toNat
def k0_dev18 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_28 : BitVec 32 := 15#32
  let v64 : BitVec 32 := Scalar.addi v2 c15_i32_28
  let c16_i32_29 : BitVec 32 := 16#32
  let v65 : BitVec 32 := Scalar.remsi v64 c16_i32_29
  let c1_i32_34 : BitVec 32 := 1#32
  let v67 : BitVec 32 := Scalar.muli v65 c1_i32_34
  let v68 : BitVec 32 := Scalar.addi c0_i32_35 v67
  v68.toNat
def k0_dev19 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_39 : BitVec 32 := 2#32
  let v76 : BitVec 32 := Scalar.addi v2 c2_i32_39
  let c16_i32_40 : BitVec 32 := 16#32
  let v77 : BitVec 32 := Scalar.remsi v76 c16_i32_40
  let c1_i32_45 : BitVec 32 := 1#32
  let v79 : BitVec 32 := Scalar.muli v77 c1_i32_45
  let v80 : BitVec 32 := Scalar.addi c0_i32_46 v79
  v80.toNat
def k0_dev20 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_50 : BitVec 32 := 14#32
  let v88 : BitVec 32 := Scalar.addi v2 c14_i32_50
  let c16_i32_51 : BitVec 32 := 16#32
  let v89 : BitVec 32 := Scalar.remsi v88 c16_i32_51
  let c1_i32_56 : BitVec 32 := 1#32
  let v91 : BitVec 32 := Scalar.muli v89 c1_i32_56
  let v92 : BitVec 32 := Scalar.addi c0_i32_57 v91
  v92.toNat
def k0_dev21 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_61 : BitVec 32 := 3#32
  let v100 : BitVec 32 := Scalar.addi v2 c3_i32_61
  let c16_i32_62 : BitVec 32 := 16#32
  let v101 : BitVec 32 := Scalar.remsi v100 c16_i32_62
  let c1_i32_67 : BitVec 32 := 1#32
  let v103 : BitVec 32 := Scalar.muli v101 c1_i32_67
  let v104 : BitVec 32 := Scalar.addi c0_i32_68 v103
  v104.toNat
def k0_dev22 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_72 : BitVec 32 := 13#32
  let v112 : BitVec 32 := Scalar.addi v2 c13_i32_72
  let c16_i32_73 : BitVec 32 := 16#32
  let v113 : BitVec 32 := Scalar.remsi v112 c16_i32_73
  let c1_i32_78 : BitVec 32 := 1#32
  let v115 : BitVec 32 := Scalar.muli v113 c1_i32_78
  let v116 : BitVec 32 := Scalar.addi c0_i32_79 v115
  v116.toNat
def k0_dev23 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_83 : BitVec 32 := 4#32
  let v124 : BitVec 32 := Scalar.addi v2 c4_i32_83
  let c16_i32_84 : BitVec 32 := 16#32
  let v125 : BitVec 32 := Scalar.remsi v124 c16_i32_84
  let c1_i32_89 : BitVec 32 := 1#32
  let v127 : BitVec 32 := Scalar.muli v125 c1_i32_89
  let v128 : BitVec 32 := Scalar.addi c0_i32_90 v127
  v128.toNat
def k0_dev24 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_94 : BitVec 32 := 12#32
  let v136 : BitVec 32 := Scalar.addi v2 c12_i32_94
  let c16_i32_95 : BitVec 32 := 16#32
  let v137 : BitVec 32 := Scalar.remsi v136 c16_i32_95
  let c1_i32_100 : BitVec 32 := 1#32
  let v139 : BitVec 32 := Scalar.muli v137 c1_i32_100
  let v140 : BitVec 32 := Scalar.addi c0_i32_101 v139
  v140.toNat
def k0_dev25 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_105 : BitVec 32 := 5#32
  let v148 : BitVec 32 := Scalar.addi v2 c5_i32_105
  let c16_i32_106 : BitVec 32 := 16#32
  let v149 : BitVec 32 := Scalar.remsi v148 c16_i32_106
  let c1_i32_111 : BitVec 32 := 1#32
  let v151 : BitVec 32 := Scalar.muli v149 c1_i32_111
  let v152 : BitVec 32 := Scalar.addi c0_i32_112 v151
  v152.toNat
def k0_dev26 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_116 : BitVec 32 := 11#32
  let v160 : BitVec 32 := Scalar.addi v2 c11_i32_116
  let c16_i32_117 : BitVec 32 := 16#32
  let v161 : BitVec 32 := Scalar.remsi v160 c16_i32_117
  let c1_i32_122 : BitVec 32 := 1#32
  let v163 : BitVec 32 := Scalar.muli v161 c1_i32_122
  let v164 : BitVec 32 := Scalar.addi c0_i32_123 v163
  v164.toNat
def k0_dev27 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_127 : BitVec 32 := 6#32
  let v172 : BitVec 32 := Scalar.addi v2 c6_i32_127
  let c16_i32_128 : BitVec 32 := 16#32
  let v173 : BitVec 32 := Scalar.remsi v172 c16_i32_128
  let c1_i32_133 : BitVec 32 := 1#32
  let v175 : BitVec 32 := Scalar.muli v173 c1_i32_133
  let v176 : BitVec 32 := Scalar.addi c0_i32_134 v175
  v176.toNat
def k0_dev28 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v184 : BitVec 32 := Scalar.addi v2 c10_i32_138
  let c16_i32_139 : BitVec 32 := 16#32
  let v185 : BitVec 32 := Scalar.remsi v184 c16_i32_139
  let c1_i32_144 : BitVec 32 := 1#32
  let v187 : BitVec 32 := Scalar.muli v185 c1_i32_144
  let v188 : BitVec 32 := Scalar.addi c0_i32_145 v187
  v188.toNat
def k0_dev29 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_149 : BitVec 32 := 7#32
  let v196 : BitVec 32 := Scalar.addi v2 c7_i32_149
  let c16_i32_150 : BitVec 32 := 16#32
  let v197 : BitVec 32 := Scalar.remsi v196 c16_i32_150
  let c1_i32_155 : BitVec 32 := 1#32
  let v199 : BitVec 32 := Scalar.muli v197 c1_i32_155
  let v200 : BitVec 32 := Scalar.addi c0_i32_156 v199
  v200.toNat
def k0_dev30 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_160 : BitVec 32 := 9#32
  let v208 : BitVec 32 := Scalar.addi v2 c9_i32_160
  let c16_i32_161 : BitVec 32 := 16#32
  let v209 : BitVec 32 := Scalar.remsi v208 c16_i32_161
  let c1_i32_166 : BitVec 32 := 1#32
  let v211 : BitVec 32 := Scalar.muli v209 c1_i32_166
  let v212 : BitVec 32 := Scalar.addi c0_i32_167 v211
  v212.toNat
def k0_dev31 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_171 : BitVec 32 := 8#32
  let v220 : BitVec 32 := Scalar.addi v2 c8_i32_171
  let c16_i32_172 : BitVec 32 := 16#32
  let v221 : BitVec 32 := Scalar.remsi v220 c16_i32_172
  let c1_i32_177 : BitVec 32 := 1#32
  let v223 : BitVec 32 := Scalar.muli v221 c1_i32_177
  let v224 : BitVec 32 := Scalar.addi c0_i32_178 v223
  v224.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_182 : BitVec 32 := 512#32
  let v232 : BitVec 32 := Scalar.muli v2 c512_i32_182
  let c0_i32_186 : BitVec 32 := 0#32
  ![v232.toNat, 0]
def k0_off3 (d0 : Dev nD) (c0_i32_187 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v236 : BitVec 32 := Scalar.addi v2 c0_i32_187
  let c16_i32_188 : BitVec 32 := 16#32
  let v237 : BitVec 32 := Scalar.remsi v236 c16_i32_188
  let c512_i32_189 : BitVec 32 := 512#32
  let v238 : BitVec 32 := Scalar.muli v237 c512_i32_189
  let c0_i32_194 : BitVec 32 := 0#32
  ![v238.toNat, 0]
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/-
  The kernel's body as a program written once per KIND of step: the fifteen signals, the fifteen remote copies, the
  sixteen rounds of the double-buffered accumulation and the fifteen closing waits are lists of one step each. The
  printed body is this program by unfolding (`body_eq_program`), so that each kind of step is proved once.
-/
module

public import proofs.«01_k».proof.Proof.Gen.KernelIdeal.Skeleton

@[expose] public section

noncomputable section

namespace Cert.KernelIdeal.Proof

open Idealize.ShloMosaic Idealize.SL.Sem
open Cert.KernelIdeal.Gen

variable {F : FTy → Type} [FloatOps F]

/-! ## The buffers and their pieces -/

/-- The device's columns of `x`, in vector memory; -/
abbrev xM : Memref sig .tc .vmem S8192x512 .f32 := Memref.whole cc0_stg0_0
/-- the weights, in the chip's main memory; -/
abbrev wM : Memref sig .tc .hbm S8192x4096 .f32 := Memref.whole main_arg1
/-- the result rows being accumulated; -/
abbrev oM : Memref sig .tc .vmem S512x4096 .f32 := Memref.whole cc0_stg1_0
/-- the sixteen receive slots; -/
abbrev rM : Memref sig .tc .vmem S16x512x512 .f32 := Memref.whole cc0_scratch0
/-- the two weight buffers. -/
abbrev bM : Memref sig .tc .vmem S2x512x4096 .f32 := Memref.whole cc0_scratch1

/-- A slot lies inside the receive buffer; -/
theorem slot_inb (s : Fin 16) : ∀ a, (![s.val, 0, 0] : Fin 3 → Nat) a + S1x512x512.size a ≤ S16x512x512.size a := by
  revert s; decide
/-- its semaphore inside the array of sixteen; -/
theorem sem16_inb (s : Fin 16) : ∀ a, (![s.val] : Fin 1 → Nat) a + S1.size a ≤ S16.size a := by
  revert s; decide
/-- a weight buffer inside the pair; -/
theorem buf_inb (b : Fin 2) : ∀ a, (![b.val, 0, 0] : Fin 3 → Nat) a + S1x512x4096.size a ≤ S2x512x4096.size a := by
  revert b; decide
/-- its semaphore inside the array of two. -/
theorem sem2_inb (b : Fin 2) : ∀ a, (![b.val] : Fin 1 → Nat) a + S1.size a ≤ S2.size a := by
  revert b; decide
/-- A block that is sent lies inside the columns of `x`. -/
theorem off1_inb (d : Dev nD) (o : Fin 16) :
    ∀ a, (k0_off1 d (BitVec.ofNat 32 o.val)) a + S512x512.size a ≤ S8192x512.size a := by
  revert d o; decide +kernel

/-- The 512 rows of `x` from an offset. -/
abbrev xAt (off : Fin 2 → Nat) (h : ∀ a, off a + S512x512.size a ≤ S8192x512.size a) : Memref sig .tc .vmem S512x512 .f32 :=
  xM.slice (Rect.unit (s := S8192x512) off S512x512.size h) (fun _ => rfl)
/-- The 512 rows of the weights from an offset. -/
abbrev wAt (off : Fin 2 → Nat) (h : ∀ a, off a + S512x4096.size a ≤ S8192x4096.size a) : Memref sig .tc .hbm S512x4096 .f32 :=
  wM.slice (Rect.unit (s := S8192x4096) off S512x4096.size h) (fun _ => rfl)
/-- Receive slot `s`. -/
abbrev slot (s : Fin 16) : Memref sig .tc .vmem S512x512 .f32 :=
  (rM.slice (Rect.unit (s := S16x512x512) ![s.val, 0, 0] S1x512x512.size (slot_inb s)) (fun _ => rfl)).squeeze S512x512 squeezes_S1x512x512_S512x512
/-- Weight buffer `b`. -/
abbrev wbuf (b : Fin 2) : Memref sig .tc .vmem S512x4096 .f32 :=
  (bM.slice (Rect.unit (s := S2x512x4096) ![b.val, 0, 0] S1x512x4096.size (buf_inb b)) (fun _ => rfl)).squeeze S512x4096 squeezes_S1x512x4096_S512x4096

/-- The barrier semaphore; -/
abbrev barS : Sem sig := (SemArray.scalar (sig.barrier 0 rfl) : Sems sig S_).sem
/-- the semaphore a copy to the device `o` places on credits at its sender; -/
abbrev sendS (o : Fin 16) : DmaSem sig := ((cc0_scratch2.slice (Rect.unit (s := S16) ![o.val] S1.size (sem16_inb o))).squeeze S_ squeezes_S1_S_).sem
/-- the one a copy into slot `s` credits at its receiver; -/
abbrev recvS (s : Fin 16) : DmaSem sig := ((cc0_scratch3.slice (Rect.unit (s := S16) ![s.val] S1.size (sem16_inb s))).squeeze S_ squeezes_S1_S_).sem
/-- the one of weight buffer `b`; -/
abbrev wS (b : Fin 2) : DmaSem sig := ((cc0_scratch4.slice (Rect.unit (s := S2) ![b.val] S1.size (sem2_inb b))).squeeze S_ squeezes_S1_S_).sem
/-- the one of the copy of the device's own block. -/
abbrev ownS : DmaSem sig := (cc0_scratch5 : DmaSems sig S_).sem

/-! ## The program -/

/-- The program's type: what follows a step. -/
abbrev PB (F : FTy → Type) [FloatOps F] : Type 1 := Prog (TpuEff nD τ sig (Elt F) Λ₀ .tc) PUnit

/-- A guarded signal: under `cond`, one unit to device `dev`. -/
structure Sig where
  cond : Dev nD → BitVec 1
  dev : ℕ
  lt : ∀ d, cond d = 1#1 → dev < nD

/-- The signals of a list, in order, then `k`. -/
def signals (d : Dev nD) : List Sig → PB F → PB F
  | [], k => k
  | e :: l, k =>
    if h : e.cond d = 1#1 then semSignalWord (⟨e.dev, e.lt d h⟩ : Dev nD) barS 1#32 >>= fun _ => signals d l k else signals d l k

/-- A remote copy: `o` places on, to device `dev`. -/
structure Send where
  o : Fin 16
  dev : Dev nD → ℕ
  lt : ∀ d, dev d < nD

/-- The remote copies of a list, in order, then `k`. -/
def sends (d : Dev nD) : List Send → PB F → PB F
  | [], k => k
  | e :: l, k =>
    .op (.enqueueDma (xAt (k0_off1 d (BitVec.ofNat 32 e.o.val)) (off1_inb d e.o))
      (.remote (Dev.tc (⟨e.dev d, e.lt d⟩ : Dev nD)) (slot (-e.o)) (.dma (sendS e.o))) (.dma (recvS (-e.o)))
      (View.wordExact_bits rfl) ((View.wordExact_bits rfl).reshape _ _) ⟨⟨rfl, Or.inl rfl⟩, trivial⟩)
      fun _ => sends d l k

/-- The copy of the device's own block to slot 0. -/
def startOwn (d : Dev nD) (k : PB F) : PB F :=
  .op (.enqueueDma (xAt (k0_off2 d) (k0_off2_inb d)) (.here (slot 0)) (.dma ownS)
    (View.wordExact_bits rfl) ((View.wordExact_bits rfl).reshape _ _) ⟨Or.inl rfl, trivial⟩) fun _ => k

/-- Its wait. -/
def waitOwn (d : Dev nD) (k : PB F) : PB F :=
  .op (.waitDma2 ownS (xAt (k0_off2 d) (k0_off2_inb d)) (slot 0)
    (View.wordExact_bits rfl) ((View.wordExact_bits rfl).reshape _ _)) fun _ => k

/-- The copy of slot `s`'s weights to buffer `b`. -/
def startW (d : Dev nD) (b : Fin 2) (s : Fin 16) (k : PB F) : PB F :=
  .op (.enqueueDma (wAt (k0_off3 d (BitVec.ofNat 32 s.val)) (k0_off3_inb d s)) (.here (wbuf b)) (.dma (wS b))
    (View.wordExact_bits rfl) ((View.wordExact_bits rfl).reshape _ _) ⟨Or.inl rfl, trivial⟩) fun _ => k

/-- Its wait. -/
def waitW (d : Dev nD) (b : Fin 2) (s : Fin 16) (k : PB F) : PB F :=
  .op (.waitDma2 (wS b) (wAt (k0_off3 d (BitVec.ofNat 32 s.val)) (k0_off3_inb d s)) (wbuf b)
    (View.wordExact_bits rfl) ((View.wordExact_bits rfl).reshape _ _)) fun _ => k

/-- The wait for slot `s`. -/
def waitRecv (s : Fin 16) (k : PB F) : PB F :=
  .op (.waitDma2 (recvS s) (xAt ![0, 0] inb_S8192x512_S512x512_0_0) (slot s)
    (View.wordExact_bits rfl) ((View.wordExact_bits rfl).reshape _ _)) fun _ => k

/-- The waits for the outgoing copies of a list, in order, then `k`. -/
def waitSends : List (Fin 16) → PB F → PB F
  | [], k => k
  | o :: l, k =>
    .op (.waitDma2 (sendS o) (slot (-o)) (xAt ![0, 0] inb_S8192x512_S512x512_0_0)
      ((View.wordExact_bits rfl).reshape _ _) (View.wordExact_bits rfl)) fun _ => waitSends l k

/-- A load of slot `s`; -/
def loadSlot (s : Fin 16) (k : Vec F S1x512x512 .f32 → PB F) : PB F :=
  .op (.load rM (Rect.unit (s := S16x512x512) ![s.val, 0, 0] S1x512x512.size (slot_inb s)).toLoadRect (View.loadsAt_vmem h_S1x512x512)) k
/-- of weight buffer `b`; -/
def loadW (b : Fin 2) (k : Vec F S1x512x4096 .f32 → PB F) : PB F :=
  .op (.load bM (Rect.unit (s := S2x512x4096) ![b.val, 0, 0] S1x512x4096.size (buf_inb b)).toLoadRect (View.loadsAt_vmem h_S1x512x4096)) k
/-- of the result; -/
def loadO (k : Vec F S512x4096 .f32 → PB F) : PB F :=
  .op (.load oM (Rect.unit (s := S512x4096) ![0, 0] S512x4096.size inb_S512x4096_S512x4096_0_0).toLoadRect (View.loadsAt_vmem h_S512x4096)) k
/-- and a store of it. -/
def storeO (v : FVec F S512x4096 .f32) (k : PB F) : PB F :=
  .op (.store oM (Rect.unit (s := S512x4096) ![0, 0] S512x4096.size inb_S512x4096_S512x4096_0_0) v Finset.univ
    (View.stores_vmem_bits_univ h_S512x4096 rfl) (.inl rfl)) fun _ => k

/-- The product of a slot with a weight buffer; -/
def prodOf (x : Vec F S1x512x512 .f32) (w : Vec F S1x512x4096 .f32) : FVec F S512x4096 .f32 :=
  k0_pay2 (k0_pay1 x) w
/-- what a round leaves in the result: what it held plus that product; -/
def accOf (x : Vec F S1x512x512 .f32) (w : Vec F S1x512x4096 .f32) (o : Vec F S512x4096 .f32) : FVec F S512x4096 .f32 :=
  k0_pay3 x w o
/-- the activation, applied at the end. -/
def geluOf (o : Vec F S512x4096 .f32) : FVec F S512x4096 .f32 := k0_pay22 o

/-- One accumulating round, slot `s` with the weights in buffer `b`: the waits, the loads, the store. -/
def round (d : Dev nD) (b : Fin 2) (s : Fin 16) (k : PB F) : PB F :=
  waitW d b s <| waitRecv s <| loadSlot s fun x => loadW b fun w => loadO fun o => loadO fun _ =>
    storeO (accOf x w o) k

/-- The rounds of a list of slots, the buffers alternating from `b`; each but the last two starts, when done, the copy
    of the weights of the slot after next. -/
def rounds (d : Dev nD) : Fin 2 → List (Fin 16) → PB F → PB F
  | b, s :: t :: u :: l, k => round d b s <| startW d b u <| rounds d (1 - b) (t :: u :: l) k
  | b, s :: l, k => round d b s <| rounds d (1 - b) l k
  | _, [], k => k

/-- The first round: slot 0, the device's own block; it overwrites the result. -/
def round0 (d : Dev nD) (k : PB F) : PB F :=
  waitW d 0 0 <| waitOwn d <| loadSlot 0 fun x => loadW 0 fun w => loadO fun _ => storeO (prodOf x w) k

/-- The end: the activation applied to the result. -/
def finish (k : PB F) : PB F := loadO fun o => loadO fun _ => storeO (geluOf o) k

/-- The signals, in the order of the program; -/
abbrev sigList : List Sig :=
  [⟨k0_cond1, k0_dev1, k0_dev1_lt⟩, ⟨k0_cond2, k0_dev2, k0_dev2_lt⟩, ⟨k0_cond3, k0_dev3, k0_dev3_lt⟩, ⟨k0_cond4, k0_dev4, k0_dev4_lt⟩,
   ⟨k0_cond5, k0_dev5, k0_dev5_lt⟩, ⟨k0_cond6, k0_dev6, k0_dev6_lt⟩, ⟨k0_cond7, k0_dev7, k0_dev7_lt⟩, ⟨k0_cond8, k0_dev8, k0_dev8_lt⟩,
   ⟨k0_cond9, k0_dev9, k0_dev9_lt⟩, ⟨k0_cond10, k0_dev10, k0_dev10_lt⟩, ⟨k0_cond11, k0_dev11, k0_dev11_lt⟩, ⟨k0_cond12, k0_dev12, k0_dev12_lt⟩,
   ⟨k0_cond13, k0_dev13, k0_dev13_lt⟩, ⟨k0_cond14, k0_dev14, k0_dev14_lt⟩, ⟨k0_cond15, k0_dev15, k0_dev15_lt⟩, ⟨k0_cond16, k0_dev16, k0_dev16_lt⟩]

/-- the remote copies; -/
abbrev sendList : List Send :=
  [⟨1, k0_dev17, k0_dev17_lt⟩, ⟨15, k0_dev18, k0_dev18_lt⟩, ⟨2, k0_dev19, k0_dev19_lt⟩, ⟨14, k0_dev20, k0_dev20_lt⟩,
   ⟨3, k0_dev21, k0_dev21_lt⟩, ⟨13, k0_dev22, k0_dev22_lt⟩, ⟨4, k0_dev23, k0_dev23_lt⟩, ⟨12, k0_dev24, k0_dev24_lt⟩,
   ⟨5, k0_dev25, k0_dev25_lt⟩, ⟨11, k0_dev26, k0_dev26_lt⟩, ⟨6, k0_dev27, k0_dev27_lt⟩, ⟨10, k0_dev28, k0_dev28_lt⟩,
   ⟨7, k0_dev29, k0_dev29_lt⟩, ⟨9, k0_dev30, k0_dev30_lt⟩, ⟨8, k0_dev31, k0_dev31_lt⟩]

/-- the slots after the first, in the order they are used; -/
abbrev slotList : List (Fin 16) := [1, 15, 2, 14, 3, 13, 4, 12, 5, 11, 6, 10, 7, 9, 8]

/-- the outgoing copies, in the order they are waited for. -/
abbrev offList : List (Fin 16) := [1, 2, 3, 4, 5, 6, 7, 8, 9, 10, 11, 12, 13, 14, 15]

/-- The body's program. -/
def program : PB F :=
  .op .deviceId fun d =>
    signals d sigList <| (semWaitWord barS 15#32 >>= fun _ =>
    (sends d sendList <| startOwn d <| startW d 0 0 <| startW d 1 1 <|
    round0 d <| startW d 0 15 <| rounds d 1 slotList <| finish <| waitSends offList <| .ret ⟨⟩))

end Cert.KernelIdeal.Proof

end
-- ==== Proof.BodyEq.lean ====
/-
  The printed body is the program: the printed text, part by part, and the list form agree step for step.
-/
module

public import proofs.«01_k».proof.Proof.Program

@[expose] public section

noncomputable section

namespace Cert.KernelIdeal.Proof

open Idealize.ShloMosaic Idealize.SL.Sem
open Cert.KernelIdeal.Gen

variable {F : FTy → Type} [FloatOps F]

/-- A guarded step before what follows in both cases, continued. -/
theorem guard_bind {α : Type} {c : Prop} [Decidable c] (s : c → PB F) {j : Prog (TpuEff nD τ sig (Elt F) Λ₀ .tc) α}
    {f : α → PB F} {R : PB F} (h : j >>= f = R) :
    (if h : c then s h >>= fun _ => j else j) >>= f = if h : c then s h >>= fun _ => R else R := by
  subst h
  split
  · exact bind_assoc _ _ _
  · rfl

/-- The first eight signals; -/
theorem signals_eq₁ (f : (Σ' (d0 : Dev nD) (v2 : BitVec 32), Sems sig S_) → PB F) :
    (k0_part1 (F := F) xM (Memref.isWhole_whole _) wM (Memref.isWhole_whole _) oM (Memref.isWhole_whole _) rM (Memref.isWhole_whole _)
      bM (Memref.isWhole_whole _) cc0_scratch2 cc0_scratch3 cc0_scratch4 cc0_scratch5 >>= f) =
      .op .deviceId fun d => signals d (sigList.take 8) (f ⟨d, Scalar.remsi (Scalar.divsi (Dev.word d) 1#32) 16#32, SemArray.scalar (sig.barrier 0 rfl)⟩) := by
  rw [k0_part1_eq_skeleton]
  refine congrArg (Prog.op TpuEff.deviceId) (funext fun d => ?_)
  iterate 8 refine guard_bind _ ?_
  rfl

/-- the other eight, and the wait. -/
theorem signals_eq₂ (d : Dev nD) (v : BitVec 32) (f : PUnit → PB F) :
    (k0_part2 (F := F) xM (Memref.isWhole_whole _) wM (Memref.isWhole_whole _) oM (Memref.isWhole_whole _) rM (Memref.isWhole_whole _)
      bM (Memref.isWhole_whole _) cc0_scratch2 cc0_scratch3 cc0_scratch4 cc0_scratch5 d v (SemArray.scalar (sig.barrier 0 rfl)) >>= f) =
      signals d (sigList.drop 8) (semWaitWord barS 15#32 >>= f) := by
  rw [k0_part2_eq_skeleton]
  iterate 8 refine guard_bind _ ?_
  rfl

/-- The program after the barrier. -/
abbrev afterBarrier (d : Dev nD) : PB F :=
  sends d sendList <| startOwn d <| startW d 0 0 <| startW d 1 1 <|
    round0 d <| startW d 0 15 <| rounds d 1 slotList <| finish <| waitSends offList <| .ret ⟨⟩

set_option maxRecDepth 65536 in
/-- The printed body, on the buffers the launch gives it, is the program. -/
theorem body_eq_program :
    cc0_body (F := F) xM (Memref.isWhole_whole _) wM (Memref.isWhole_whole _) oM (Memref.isWhole_whole _) rM (Memref.isWhole_whole _)
      bM (Memref.isWhole_whole _) cc0_scratch2 cc0_scratch3 cc0_scratch4 cc0_scratch5 = program :=
  Eq.trans (signals_eq₁ fun r => k0_part2 _ _ _ _ _ _ _ _ _ _ _ _ _ _ r.1 r.2.1 r.2.2 >>= fun _ => afterBarrier r.1)
    (congrArg (Prog.op TpuEff.deviceId) (funext fun d => congrArg (signals d (sigList.take 8)) (signals_eq₂ d _ _)))

end Cert.KernelIdeal.Proof

end
-- ==== Proof.Schedule.lean ====
/-
  The protocol of the exchange, as a schedule of one round. `c + o` is the device `o` places after `c` (sixteen devices
  in a circle), and slot `s` of device `c` is filled by device `c + s`.

  * The BARRIER cell of `c` has one duty of one unit per other device `p`: `p`'s signal, which hands `c` the slot of
    `p` that `c` will write, slot `c - p`.
  * The SEND cell `o` of `c` (`o ≠ 0`) has one duty: the copy to `c + o` has read its source, which comes back.
  * The RECEIVE cell `s` of `c` (`s ≠ 0`) has one duty: the copy from `c + s` has landed in slot `s`, which holds row
    block `c` of that device's columns of `x`.
-/
module

public import proofs.«01_k».proof.Proof.Program
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- It lies in the user part of the resource. -/
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

/-! ## The circle -/

/-- `p` is `p - c` places after `c`. -/
theorem add_sub_dev (c p : Dev nD) : c + (p - c) = p := by revert c p; decide
/-- A device is no places after itself. -/
theorem add_zero_dev (c : Dev nD) : c + 0 = c := by revert c; decide
/-- The slot of `c + o` that `c` fills is `-o`. -/
theorem sub_dev (c o : Dev nD) : c - (c + o) = -o := by revert c o; decide
/-- Forth and back. -/
theorem add_add_neg (c o : Dev nD) : c + o + -o = c := by revert c o; decide
/-- Another offset is another device. -/
theorem add_ne (c o : Dev nD) (h : o ≠ 0) : c + o ≠ c := by revert c o; decide
/-- An offset that is not zero fills a slot that is not zero. -/
theorem neg_ne (o : Dev nD) (h : o ≠ 0) : -o ≠ 0 := by revert o; decide

/-! ## The pieces at their places -/

/-- Row block `j` of the device's columns of `x`. -/
abbrev xBlk (j : Dev nD) : Memref sig .tc .vmem S512x512 .f32 :=
  xAt ![512 * j.val, 0] (by revert j; decide)
/-- Row block `j` of the weights. -/
abbrev wBlk (j : Dev nD) : Memref sig .tc .hbm S512x4096 .f32 :=
  wAt ![512 * j.val, 0] (by revert j; decide)

/-! ## The cells -/

abbrev barCell (c : Dev nD) : GSem nD τ sig := ((c : Thread nD τ), .reg barS)
abbrev sendCell (c : Dev nD) (o : Fin 16) : GSem nD τ sig := ((c : Thread nD τ), .dma (sendS o))
abbrev recvCell (c : Dev nD) (s : Fin 16) : GSem nD τ sig := ((c : Thread nD τ), .dma (recvS s))

/-- What a semaphore is in the exchange. -/
inductive Role
  | bar
  | send (o : Fin 16)
  | recv (s : Fin 16)
  | other

/-- The role of a semaphore, by its number. -/
def role : SemLoc sig → Role
  | .reg q => if q = barS then .bar else .other
  | .dma q =>
    if h : 2 ≤ q.val ∧ q.val < 18 then .send ⟨q.val - 2, by omega⟩
    else if h : 18 ≤ q.val ∧ q.val < 34 then .recv ⟨q.val - 18, by omega⟩ else .other

/-- The barrier; -/
theorem role_bar : role (.reg barS) = .bar := rfl
/-- the send semaphores; -/
theorem role_send : ∀ o : Fin 16, role (.dma (sendS o)) = .send o := by
  intro o; fin_cases o <;> rfl
/-- the receive semaphores; -/
theorem role_recv : ∀ s : Fin 16, role (.dma (recvS s)) = .recv s := by
  intro s; fin_cases s <;> rfl
/-- the weights' semaphores; -/
theorem role_w : ∀ b : Fin 2, role (.dma (wS b)) = .other := by
  intro b; fin_cases b <;> rfl
/-- the own block's. -/
theorem role_own : role (.dma ownS) = .other := rfl

/-- What one copy of a block counts on its cells. -/
abbrev N : ℕ := (slot 0).view.dmaCredit
/-- A copy of a block credits something. -/
theorem N_pos : 0 < N := View.dmaCredit_pos _ (by decide)

/-! ## Contents -/

variable (X : (c : Dev nD) → Buf (Elt F) ((c : Thread nD τ).loc cc0_stg0_0))

/-- Row block `j` of device `c`'s columns of `x`, as values. -/
def blkVal (c j : Dev nD) : S512x512.Idx → Elt F .f32 := (xBlk j).view.read (Elt F) (X c)

/-- Device `c`'s row block `j` held, at what it holds throughout. -/
def xPts (c j : Dev nD) : sProp 𝕄 := (xBlk j).view.loc (c : Thread nD τ) ↦[(xBlk j).view.set]{fullShare} X c

/-- Slot `s` of device `c` held, at anything. -/
def slotAny (c : Dev nD) (s : Fin 16) : sProp 𝕄 :=
  iprop(∃ f, (slot s).view.loc (c : Thread nD τ) ↦[(slot s).view.set]{fullShare} f)

/-- Slot `s` of device `c` held, filled from device `c + s`. -/
def slotFull (c : Dev nD) (s : Fin 16) : sProp 𝕄 := owns (c : Thread nD τ) (slot s) fullShare (blkVal X (c + s) c)

/-- Row blocks and slots may be kept in an invariant. -/
instance xPts_storable (c j : Dev nD) : BI.Storable (upEmb : UEmb _ 𝕄) (xPts X c j) := by unfold xPts; infer_instance
/-- So may a slot at anything, -/
instance slotAny_storable (c : Dev nD) (s : Fin 16) : BI.Storable (upEmb : UEmb _ 𝕄) (slotAny (F := F) c s) := by unfold slotAny; infer_instance
/-- and a filled one. -/
instance slotFull_storable (c : Dev nD) (s : Fin 16) : BI.Storable (upEmb : UEmb _ 𝕄) (slotFull X c s) := by unfold slotFull; infer_instance

/-! ## The schedule -/

/-- What `p`'s signal hands `c`: the slot of `p` that `c` writes. -/
abbrev barPay (c p : Dev nD) : sProp 𝕄 := slotAny p (c - p)

/-- The exchange's schedule. -/
def Rd : Rounds.Schedule (GSem nD τ sig) (Dev nD) 𝕄 where
  duties g r := if r = 0 ∧ g.1.2 = .tc then
      (match role g.2 with
       | .bar => Finset.univ.erase g.1.1
       | .send o => if o = 0 then ∅ else {0}
       | .recv s => if s = 0 then ∅ else {0}
       | .other => ∅)
    else ∅
  unitless _ := False
  amount g _ _ := match role g.2 with
    | .bar => 1
    | _ => N
  payload g _ d := match role g.2 with
    | .bar => barPay g.1.1 d
    | .send o => xPts X g.1.1 (g.1.1 + o)
    | .recv s => slotFull X g.1.1 s
    | .other => iprop(emp)
  amount_pos g _ _ _ := by
    split
    · exact Nat.one_pos
    · exact N_pos

/-- What a duty hands over may be kept in the cell's invariant. -/
instance Rd_payload_storable (g : GSem nD τ sig) (r : ℕ) (d : Dev nD) :
    BI.Storable (upEmb : UEmb _ 𝕄) ((Rd X).payload g r d) := by
  dsimp only [Rd]
  split
  · infer_instance
  · infer_instance
  · infer_instance
  · infer_instance

section Sched
variable (c : Dev nD)

/-- The barrier's duties are the other devices' signals; -/
theorem duties_bar : (Rd X).duties (barCell c) 0 = Finset.univ.erase c := by
  dsimp only [Rd]; rw [if_pos ⟨rfl, rfl⟩, role_bar]
/-- a send cell has one duty; -/
theorem duties_send (o : Fin 16) (ho : o ≠ 0) : (Rd X).duties (sendCell c o) 0 = {0} := by
  dsimp only [Rd]; rw [if_pos ⟨rfl, rfl⟩, role_send]; exact if_neg ho
/-- a receive cell one. -/
theorem duties_recv (s : Fin 16) (hs : s ≠ 0) : (Rd X).duties (recvCell c s) 0 = {0} := by
  dsimp only [Rd]; rw [if_pos ⟨rfl, rfl⟩, role_recv]; exact if_neg hs
/-- Offset zero is not sent, -/
theorem duties_send0 (r : ℕ) : (Rd X).duties (sendCell c 0) r = ∅ := by
  dsimp only [Rd]; split
  · rw [role_send]; exact if_pos rfl
  · rfl
/-- and slot zero not received. -/
theorem duties_recv0 (r : ℕ) : (Rd X).duties (recvCell c 0) r = ∅ := by
  dsimp only [Rd]; split
  · rw [role_recv]; exact if_pos rfl
  · rfl
/-- There is one round. -/
theorem duties_later (g : GSem nD τ sig) : ∀ r, 1 ≤ r → (Rd X).duties g r = ∅ :=
  fun r hr => if_neg fun h => by omega

/-- A signal is one unit; -/
theorem amount_bar (d : Dev nD) : (Rd X).amount (barCell c) 0 d = 1 := by dsimp only [Rd]; rw [role_bar]
/-- a send's completion a block's credit; -/
theorem amount_send (o : Fin 16) (d : Dev nD) : (Rd X).amount (sendCell c o) 0 d = N := by dsimp only [Rd]; rw [role_send]
/-- so an arrival. -/
theorem amount_recv (s : Fin 16) (d : Dev nD) : (Rd X).amount (recvCell c s) 0 d = N := by dsimp only [Rd]; rw [role_recv]

/-- The barrier expects fifteen units; -/
theorem expect_bar : (Rd X).expect (barCell c) 0 = 15 := by
  unfold Schedule.expect Schedule.amountOf
  rw [duties_bar, Finset.sum_congr rfl fun d _ => amount_bar X c d, Finset.sum_const, Finset.card_erase_of_mem (Finset.mem_univ _),
    Finset.card_univ, Fintype.card_fin]
  rfl
/-- a send cell a block's credit; -/
theorem expect_send (o : Fin 16) (ho : o ≠ 0) : (Rd X).expect (sendCell c o) 0 = N := by
  unfold Schedule.expect Schedule.amountOf; rw [duties_send X c o ho, Finset.sum_singleton, amount_send]
/-- a receive cell the same. -/
theorem expect_recv (s : Fin 16) (hs : s ≠ 0) : (Rd X).expect (recvCell c s) 0 = N := by
  unfold Schedule.expect Schedule.amountOf; rw [duties_recv X c s hs, Finset.sum_singleton, amount_recv]

/-- A signal hands over the slot to write; -/
theorem payload_bar (p : Dev nD) : (Rd X).payload (barCell c) 0 p = barPay c p := by dsimp only [Rd]; rw [role_bar]
/-- a send's completion the block it read; -/
theorem payload_send (o : Fin 16) (d : Dev nD) : (Rd X).payload (sendCell c o) 0 d = xPts X c (c + o) := by
  dsimp only [Rd]; rw [role_send]
/-- an arrival the filled slot. -/
theorem payload_recv (s : Fin 16) (d : Dev nD) : (Rd X).payload (recvCell c s) 0 d = slotFull X c s := by
  dsimp only [Rd]; rw [role_recv]

/-- All that the barrier hands over: every slot to write; -/
theorem rest_bar : bigSep ((Rd X).duties (barCell c) 0 \ ∅) (fun d => (Rd X).payload (barCell c) 0 d)
    = bigSep (Finset.univ.erase c) fun p => barPay (F := F) c p := by
  rw [Finset.sdiff_empty, duties_bar, bigSep_congr fun d _ => payload_bar X c d]
/-- all that a send cell does: the block; -/
theorem rest_send (o : Fin 16) (ho : o ≠ 0) :
    bigSep ((Rd X).duties (sendCell c o) 0 \ ∅) (fun d => (Rd X).payload (sendCell c o) 0 d) = xPts X c (c + o) := by
  rw [Finset.sdiff_empty, duties_send X c o ho, bigSep_singleton, payload_send]
/-- all that a receive cell does: the filled slot. -/
theorem rest_recv (s : Fin 16) (hs : s ≠ 0) :
    bigSep ((Rd X).duties (recvCell c s) 0 \ ∅) (fun d => (Rd X).payload (recvCell c s) 0 d) = slotFull X c s := by
  rw [Finset.sdiff_empty, duties_recv X c s hs, bigSep_singleton, payload_recv]

end Sched

/-! ## What a device owes; the levels -/

/-- The offsets of the remote copies, in the program's order. -/
abbrev sendOffs : List (Fin 16) := [1, 15, 2, 14, 3, 13, 4, 12, 5, 11, 6, 10, 7, 9, 8]
/-- The devices in the order they are signalled. -/
abbrev sigDevs : List (Dev nD) := [0, 1, 2, 3, 4, 5, 6, 7, 8, 9, 10, 11, 12, 13, 14, 15]

/-- The unit device `c` owes device `j`'s barrier cell. -/
def sigOwe (c j : Dev nD) : CellTallies nD τ sig Unit := if j = c then 0 else tallyAt (barCell j) () 1
/-- The credit it owes the receive cell `o` places on. -/
def sendOwe (c o : Dev nD) : CellTallies nD τ sig Unit := tallyAt (recvCell (c + o) (-o)) () N

/-- What is owed for a list of signals; -/
def sigsOwe (c : Dev nD) (l : List (Dev nD)) : CellTallies nD τ sig Unit := (l.map (sigOwe c)).sum
/-- for a list of copies; -/
def sendsOwe (c : Dev nD) (l : List (Fin 16)) : CellTallies nD τ sig Unit := (l.map (sendOwe c)).sum
/-- at launch: all of both. -/
def O₀ (c : Dev nD) : CellTallies nD τ sig Unit := sigsOwe c sigDevs + sendsOwe c sendOffs

/-- Every cell of a TensorCore has its level; -/
def L (g : GSem nD τ sig) : Finset Unit := if g.1.2 = .tc then {()} else ∅
/-- barrier cells 1, receive cells 2, everything else 0. -/
def lv (g : GSem nD τ sig) (_ : Unit) : ℕ := match role g.2 with
  | .bar => 1
  | .recv _ => 2
  | _ => 0

/-- No other thread has levels; -/
theorem L_of_ne (g : GSem nD τ sig) (h : g.1.2 ≠ .tc) : L g = ∅ := if_neg h
/-- this one has one per semaphore. -/
theorem L_tc (c : Dev nD) (sm : SemLoc sig) : L ((c : Thread nD τ), sm) = {()} := if_pos rfl
/-- The barrier's level is one; -/
theorem lv_bar (c : Dev nD) (u : Unit) : lv (barCell c) u = 1 := by unfold lv; rw [role_bar]
/-- a receive cell's two. -/
theorem lv_recv (c : Dev nD) (s : Fin 16) (u : Unit) : lv (recvCell c s) u = 2 := by unfold lv; rw [role_recv]

/-- A list of tallies at a cell: the list of what each is there. -/
theorem sum_at {A : Type} (l : List A) (f : A → CellTallies nD τ sig Unit) (g : GSem nD τ sig) (u : Unit) :
    (l.map f).sum g u = (l.map fun a => f a g u).sum := by
  induction l with
  | nil => rfl
  | cons a l ih => rw [List.map_cons, List.sum_cons, List.map_cons, List.sum_cons, ← ih]; rfl

/-- If a sum over a list is positive, one of its terms is. -/
theorem sum_pos_mem {A : Type} (l : List A) (f : A → ℕ) (h : 0 < (l.map f).sum) : ∃ a ∈ l, 0 < f a := by
  induction l with
  | nil => exact absurd h (Nat.lt_irrefl 0)
  | cons a l ih =>
    rw [List.map_cons, List.sum_cons] at h
    by_cases ha : 0 < f a
    · exact ⟨a, List.mem_cons_self, ha⟩
    · obtain ⟨b, hb, hp⟩ := ih (by omega)
      exact ⟨b, List.mem_cons_of_mem _ hb, hp⟩

/-- What is owed for copies is owed to receive cells; -/
theorem sendsOwe_pos {c : Dev nD} {l : List (Fin 16)} {g : GSem nD τ sig} {u : Unit} (h : 0 < sendsOwe c l g u) :
    ∃ d s, g = recvCell d s := by
  unfold sendsOwe at h
  rw [sum_at] at h
  obtain ⟨o, -, ho⟩ := sum_pos_mem _ _ h
  unfold sendOwe at ho
  rw [tallyAt_apply] at ho
  by_cases hg : g = recvCell (c + o) (-o) ∧ u = ()
  · exact ⟨_, _, hg.1⟩
  · rw [if_neg hg] at ho; exact absurd ho (Nat.lt_irrefl 0)

/-- what is owed at launch, to those or to barrier cells. -/
theorem O₀_pos {c : Dev nD} {g : GSem nD τ sig} {u : Unit} (h : 0 < O₀ c g u) :
    (∃ d s, g = recvCell d s) ∨ ∃ d, g = barCell d := by
  unfold O₀ at h
  rw [Pi.add_apply, Finsupp.add_apply] at h
  by_cases h₂ : 0 < sendsOwe c sendOffs g u
  · exact .inl (sendsOwe_pos h₂)
  · refine .inr ?_
    have h₁ : 0 < sigsOwe c sigDevs g u := by omega
    unfold sigsOwe at h₁
    rw [sum_at] at h₁
    obtain ⟨j, -, hj⟩ := sum_pos_mem _ _ h₁
    unfold sigOwe at hj
    by_cases hjc : j = c
    · rw [if_pos hjc] at hj; exact absurd hj (Nat.lt_irrefl 0)
    · rw [if_neg hjc, tallyAt_apply] at hj
      by_cases hg : g = barCell j ∧ u = ()
      · exact ⟨_, hg.1⟩
      · rw [if_neg hg] at hj; exact absurd hj (Nat.lt_irrefl 0)

/-- The staging semaphores may be waited for whatever is owed at launch, or nothing; -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; unfold lv; dsimp only; rw [hq])
      (fun g u hg => by
        rcases O₀_pos hg with ⟨d, s, rfl⟩ | ⟨d, rfl⟩
        · rw [lv_recv]; decide
        · rw [lv_bar]; decide)
  · rw [MayWait_zero]; iintro -; iempintro

/-- and the barrier while only copies are owed. -/
theorem mayWait_bar (c : Dev nD) :
    (levAts L lv : sProp 𝕄) ⊢ MayWait (c : Thread nD τ) (.reg barS) () (sendsOwe c sendOffs) :=
  MayOwe.of_cut (L := L) (lev := lv) 1 (fun p hp => by rw [Finset.mem_singleton.mp hp, L_tc]; exact Finset.mem_singleton_self _)
    (fun g u hg => by obtain ⟨d, s, rfl⟩ := sendsOwe_pos hg; exact Finset.mem_singleton_self _)
    (fun p hp => by rw [Finset.mem_singleton.mp hp]; exact (lv_bar c ()).le)
    (fun g u hg => by obtain ⟨d, s, rfl⟩ := sendsOwe_pos hg; rw [lv_recv]; decide)

end Cert.KernelIdeal.Proof

end
-- ==== Proof.Steps.lean ====
/-
  The steps of the exchange, each kind once at a symbolic device, and their lists: the signals, the wait for the
  barrier, the remote copies and the closing waits.
-/
module

public import proofs.«01_k».proof.Proof.Schedule

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Nothing of the body is a variant's. -/
abbrev 𝒱₀ : Variants := Variants.none

/-- The program `p`, run on device `c`, ends in `Q`. -/
abbrev runs (c : Dev nD) (p : PB F) (Q : PUnit → sProp 𝕄) : sProp 𝕄 :=
  wp frame (wpE (defs₀ (F := F)) 𝒱₀ (c : Thread nD τ) none) Set.univ p Q

/-- Device `c` owes `O`, whatever it has waited for. -/
abbrev owe (c : Dev nD) (O : CellTallies nD τ sig Unit) : sProp 𝕄 := iprop(∃ W, owes (c : Thread nD τ) O W)

/-! ## Families of assertions -/

/-- The family over a set with one member more: that member and the rest; -/
theorem sep_insert {A : Type} [DecidableEq A] {i : A} {s : Finset A} (h : i ∉ s) {Φ : A → sProp 𝕄} :
    bigSep (insert i s) Φ = iprop(Φ i ∗ bigSep s Φ) := bigSep_insert h
/-- the same, taking a member out; -/
theorem sep_take {A : Type} [DecidableEq A] {i : A} {s : Finset A} (h : i ∈ s) {Φ : A → sProp 𝕄} :
    bigSep s Φ = iprop(Φ i ∗ bigSep (s.erase i) Φ) := bigSep_erase h
/-- and one member alone. -/
theorem sep_member {A : Type} [DecidableEq A] {i : A} {s : Finset A} (h : i ∈ s) {Φ : A → sProp 𝕄} : (bigSep s Φ : sProp 𝕄) ⊢ Φ i :=
  bigSep_elim h

/-! ## The cells' invariants -/

/-- The exchange's semaphores of a device: the barrier, the send and the receive ones. -/
def csem (k : Fin 33) : SemLoc sig :=
  if k.val = 0 then .reg barS else if h : k.val < 17 then .dma (sendS ⟨k.val - 1, by omega⟩) else .dma (recvS ⟨k.val - 17, by omega⟩)
abbrev kB : Fin 33 := 0
abbrev kS (o : Fin 16) : Fin 33 := ⟨o.val + 1, by omega⟩
abbrev kR (s : Fin 16) : Fin 33 := ⟨s.val + 17, by omega⟩
/-- The barrier's semaphore; -/
theorem csem_B : csem kB = .reg barS := rfl
/-- the send cells'; -/
theorem csem_S (o : Fin 16) : csem (kS o) = .dma (sendS o) := by
  unfold csem
  rw [if_neg (by simp), dif_pos (by show o.val + 1 < 17; omega)]
  rfl
/-- the receive cells'. -/
theorem csem_R (s : Fin 16) : csem (kR s) = .dma (recvS s) := by
  unfold csem
  rw [if_neg (by simp), dif_neg (by show ¬ s.val + 17 < 17; omega)]
  rfl

/-- The cell of a device and a semaphore. -/
abbrev kcell (ck : Dev nD × Fin 33) : GSem nD τ sig := ((ck.1 : Thread nD τ), csem ck.2)

variable (X : (c : Dev nD) → Buf (Elt F) ((c : Thread nD τ).loc cc0_stg0_0)) (K : Dev nD × Fin 33 → ℕ)

/-- What every device knows: the invariant of every cell, and that every cell has reached round 0. -/
def known : sProp 𝕄 :=
  iprop((bigSep Finset.univ fun ck => cellInv ER (Rd X) (K ck) (kcell ck)) ∗ bigSep Finset.univ fun ck => reached ER (kcell ck) 0)

/-- What all devices know can be copied. -/
instance known_persistent : Persistent (known X K : sProp 𝕄) := by unfold known; infer_instance

/-- It holds each cell's invariant, -/
theorem known_inv (ck : Dev nD × Fin 33) (g : GSem nD τ sig) (h : kcell ck = g) :
    (known X K : sProp 𝕄) ⊢ cellInv ER (Rd X) (K ck) g := by
  subst h
  unfold known
  iintro ⟨H, -⟩
  iapply (sep_member (Finset.mem_univ ck)) $$ H
/-- and that the cell has reached its first round. -/
theorem known_reached (ck : Dev nD × Fin 33) (g : GSem nD τ sig) (h : kcell ck = g) :
    (known X K : sProp 𝕄) ⊢ reached ER g 0 := by
  subst h
  unfold known
  iintro ⟨-, H⟩
  iapply (sep_member (Finset.mem_univ ck)) $$ H
/-- The barrier cell by its key; -/
theorem kc_B (c : Dev nD) : kcell (c, kB) = barCell c := rfl
/-- the send cells; -/
theorem kc_S (c : Dev nD) (o : Fin 16) : kcell (c, kS o) = sendCell c o := congrArg (Prod.mk _) (csem_S o)
/-- the receive cells. -/
theorem kc_R (c : Dev nD) (s : Fin 16) : kcell (c, kR s) = recvCell c s := congrArg (Prod.mk _) (csem_R s)

/-! ## The signals -/

/-- What a list of signals owes is its first's and the rest's; -/
theorem sigsOwe_cons (c j : Dev nD) (l : List (Dev nD)) : sigsOwe c (j :: l) = sigOwe c j + sigsOwe c l := by
  unfold sigsOwe; rw [List.map_cons, List.sum_cons]
/-- so of sends. -/
theorem sendsOwe_cons (c o : Dev nD) (l : List (Fin 16)) : sendsOwe c (o :: l) = sendOwe c o + sendsOwe c l := by
  unfold sendsOwe; rw [List.map_cons, List.sum_cons]

/-- What the signal to `j` takes: the right to it, and the slot it hands over; the device does not signal itself. -/
def sigRes (c j : Dev nD) : sProp 𝕄 :=
  if j = c then iprop(emp) else iprop(dutyTok ER (barCell j) 0 c ∗ slotAny c (j - c))

/-- The signals of a list: each hands its device the slot that device fills. -/
theorem runs_signals (c : Dev nD) (l : List Sig) (js : List (Dev nD))
    (hl : List.Forall₂ (fun e j => e.dev = j.val ∧ (e.cond c = 1#1 ↔ j ≠ c)) l js) (hnd : js.Nodup)
    (O : CellTallies nD τ sig Unit) (k : PB F) (Q : PUnit → sProp 𝕄) :
    iprop(known X K ∗ owe c (sigsOwe c js + O) ∗ bigSep js.toFinset (sigRes c) ∗ (owe c O -∗ runs c k Q))
      ⊢ runs c (signals c l k) Q := by
  induction hl with
  | nil =>
    iintro ⟨-, HO, -, Hk⟩
    unfold signals
    iapply Hk
    rw [show sigsOwe c [] + O = O from zero_add O]
    iexact HO
  | @cons e j l js he hl ih =>
    obtain ⟨hj, hnd'⟩ := List.nodup_cons.mp hnd
    rw [sigsOwe_cons, List.toFinset_cons, sep_insert (by rwa [List.mem_toFinset])]
    unfold signals
    unfold sigRes sigOwe
    by_cases h : j = c
    · rw [dif_neg (fun hc => he.2.mp hc h), if_pos h, zero_add]
      iintro ⟨#HK, HO, ⟨-, Hr⟩, Hk⟩
      iapply (ih hnd')
      isplitr; · iexact HK
      isplitl [HO]; · iexact HO
      isplitl [Hr]; · iexact Hr
      iexact Hk
    · rw [dif_pos (he.2.mpr h), if_neg h, if_neg h]
      have hd : (⟨e.dev, e.lt c (he.2.mpr h)⟩ : Dev nD) = j := Fin.ext he.1
      rw [hd]
      simp only [semSignalWord, Prog.lift, Prog.bind_op, Prog.bind_ret, Prog.pure_eq_ret]
      iintro ⟨#HK, ⟨%W, HO⟩, ⟨⟨Ht, Hs⟩, Hr⟩, Hk⟩
      iapply (Rounds.wp_signal 𝒱₀ ER (Rd X) (c : Thread nD τ) none (dst := (j : Thread nD τ)) (κ := K (j, kB))
          (d := c) (by rw [duties_bar]; exact Finset.mem_erase.mpr ⟨fun hc => h hc.symm, Finset.mem_univ _⟩)
          ((amount_bar X j c).trans (by decide)) ()
          (O₀ := tallyAt (barCell j) () 1 + sigsOwe c js + O) (sigsOwe c js + O) ((add_assoc _ _ _).trans (add_comm _ _))) $$ [HO Ht Hs]
      · isplitr; · iapply (known_inv X K _ _ (kc_B j)); iexact HK
        isplitl [HO]; · iexact HO
        isplitl [Ht]; · iexact Ht
        isplitl [Hs]; · rw [payload_bar]; iexact Hs
        iapply (known_reached X K _ _ (kc_B j)); iexact HK
      iintro HO
      iapply (ih hnd')
      isplitr; · iexact HK
      isplitl [HO]; · iexists W; iexact HO
      isplitl [Hr]; · iexact Hr
      iexact Hk

/-! ## The barrier -/

/-- The wait for the fifteen signals: it brings every other device's slot for this one. -/
theorem runs_barrier (c : Dev nD) (k : PB F) (Q : PUnit → sProp 𝕄) :
    iprop(known X K ∗ levAts L lv ∗ owe c (sendsOwe c sendOffs) ∗ cred (tallyAt (barCell c) () 15) ∗ atPos ER (barCell c) 0 ∅ 0
        ∗ ((owe c (sendsOwe c sendOffs) ∗ atPos ER (barCell c) 1 ∅ 0 ∗ bigSep (Finset.univ.erase c) (barPay c)) -∗ runs c k Q))
      ⊢ runs c (semWaitWord barS 15#32 >>= fun _ => k) Q := by
  simp only [semWaitWord, Prog.lift, Prog.bind_op, Prog.bind_ret, Prog.pure_eq_ret]
  iintro ⟨#HK, #Hlev, ⟨%W, HO⟩, Hc, Hat, Hk⟩
  iapply (Rounds.wp_wait_rest_token 𝒱₀ ER (Rd X) (c : Thread nD τ) none (κ := K (c, kB))
      (wpE_semWait_eq 𝒱₀ (c : Thread nD τ) none Set.univ) (Set.mem_univ _) () (O := sendsOwe c sendOffs) (W := W) (R := 0) (m := 0) (T := ∅)
      (by rw [expect_bar]; decide)) $$ [Hc HO Hat]
  · isplitr; · iapply (known_inv X K _ _ (kc_B c)); iexact HK
    isplitl [Hc]; · iexact Hc
    isplitl [HO]; · iexact HO
    isplitr; · iapply (mayWait_bar c); iexact Hlev
    iexact Hat
  iintro ⟨HO, Hat, -, Hp⟩
  ihave Hp := (Entails.of_eq (rest_bar X c)) $$ Hp
  iapply Hk
  isplitl [HO]; · iexists _; iexact HO
  isplitl [Hat]; · iexact Hat
  iexact Hp

/-! ## The remote copies -/

/-- The printed offset of the block sent at offset `o` is row `512 (c + o)`. -/
theorem off1_eq (c : Dev nD) (o : Fin 16) (ho : o ≠ 0) :
    k0_off1 c (BitVec.ofNat 32 o.val) = ![512 * (c + o).val, 0] := by revert c o; decide +kernel

/-- What the copy `o` places on takes: its source block, the slot it fills, and the rights to its two duties. -/
def sendRes (c : Dev nD) (o : Fin 16) : sProp 𝕄 :=
  iprop(xPts X c (c + o) ∗ slotAny (c + o) (-o) ∗ dutyTok ER (sendCell c o) 0 0 ∗ dutyTok ER (recvCell (c + o) (-o)) 0 0)

/-- A block written to a slot is the slot's full state. -/
theorem slot_written (p : Dev nD) (s : Fin 16) (v : S512x512.Idx → Elt F .f32) (hv : v = blkVal X (p + s) p)
    (fd : Buf (Elt F) ((slot s).view.loc (p : Thread nD τ))) :
    ((slot s).view.loc (p : Thread nD τ) ↦[(slot s).view.set]{fullShare} ((slot s).view.write (Elt F) fd v Finset.univ) : sProp 𝕄)
      ⊢ slotFull X p s := by
  subst hv
  unfold slotFull owns
  iintro H
  iexists ((slot s).view.write (Elt F) fd (blkVal X (p + s) p) Finset.univ)
  isplitr; · ipureintro; exact View.read_write_univ _ _
  iexact H

/-- One remote copy, its source at an offset and its target a device given by their values. -/
theorem wp_send_at (c : Dev nD) (o : Fin 16) (ho : o ≠ 0) (off : Fin 2 → ℕ) (h : ∀ a, off a + S512x512.size a ≤ S8192x512.size a)
    (hoff : off = ![512 * (c + o).val, 0]) (n : Dev nD) (hn : n = c + o)
    {hsrc hdst hsem} (k : PB F) (Q : PUnit → sProp 𝕄) (O : CellTallies nD τ sig Unit) :
    iprop(known X K ∗ owe c (sendOwe c o + O) ∗ sendRes X c o
        ∗ ((owe c O ∗ cred (tallyAt (sendCell c o) () N)) -∗ runs c k Q))
      ⊢ runs c (.op (.enqueueDma (xAt off h) (.remote (Dev.tc n) (slot (-o)) (.dma (sendS o))) (.dma (recvS (-o))) hsrc hdst hsem) fun _ => k) Q := by
  subst hoff hn
  unfold sendRes slotAny sendOwe
  iintro ⟨#HK, ⟨%W, HO⟩, ⟨Hx, ⟨%fn, Hs⟩, HtS, HtR⟩, Hk⟩
  unfold xPts
  iapply (Rounds.wp_send_pointsTo 𝒱₀ ER (Rd X) (c : Thread nD τ) none (c' := ((c + o : Dev nD) : Thread nD τ)) (src := xBlk (c + o))
    (dst := slot (-o)) (q := fullShare) (fs := X c) (κ₁ := K (c, kS o)) (κ₂ := K (c + o, kR (-o)))
    (r₁ := 0) (r₂ := 0) (d₁ := 0) (d₂ := 0) (fd := fn)
    (by rw [duties_send X c o ho]; exact Finset.mem_singleton_self _) (by rw [duties_recv X _ _ (neg_ne o ho)]; exact Finset.mem_singleton_self _)
    () () N rfl (amount_send X c o 0) (amount_recv X (c + o) (-o) 0) O (add_comm _ _) (W := W)
    (by rw [payload_send]; exact BI.Entails.refl _)
    (by rw [payload_recv]; exact slot_written X (c + o) (-o) _ (by rw [add_add_neg]; rfl) fn)) $$ [Hx Hs HO HtS HtR]
  · isplitr; · iapply (known_inv X K _ _ (kc_S c o)); iexact HK
    isplitr; · iapply (known_inv X K _ _ (kc_R (c + o) (-o))); iexact HK
    isplitl [Hx]; · iexact Hx
    isplitl [Hs]; · iexact Hs
    isplitl [HO]; · iexact HO
    isplitl [HtS]; · iexact HtS
    isplitr; · iapply (known_reached X K _ _ (kc_S c o)); iexact HK
    isplitl [HtR]; · iexact HtR
    iapply (known_reached X K _ _ (kc_R (c + o) (-o))); iexact HK
  iintro ⟨HcS, HO⟩
  iapply Hk
  isplitl [HO]; · iexists W; iexact HO
  iexact HcS

/-- The remote copies of a list. -/
theorem runs_sends (c : Dev nD) (l : List Send) (hl : ∀ e ∈ l, e.o ≠ 0 ∧ e.dev c = (c + e.o).val) (hnd : (l.map Send.o).Nodup)
    (k : PB F) (Q : PUnit → sProp 𝕄) :
    iprop(known X K ∗ owe c (sendsOwe c (l.map Send.o)) ∗ bigSep (l.map Send.o).toFinset (sendRes X c)
        ∗ ((owe c 0 ∗ bigSep (l.map Send.o).toFinset fun o => cred (tallyAt (sendCell c o) () N)) -∗ runs c k Q))
      ⊢ runs c (sends c l k) Q := by
  induction l generalizing Q with
  | nil =>
    iintro ⟨-, HO, -, Hk⟩
    unfold sends
    iapply Hk
    isplitl [HO]; · iexact HO
    rw [List.map_nil, List.toFinset_nil, bigSep_empty]
    iempintro
  | cons e l ih =>
    rw [List.map_cons] at hnd ⊢
    obtain ⟨hj, hnd'⟩ := List.nodup_cons.mp hnd
    obtain ⟨ho, hd⟩ := hl e List.mem_cons_self
    rw [sendsOwe_cons, List.toFinset_cons, sep_insert (by rwa [List.mem_toFinset]), sep_insert (by rwa [List.mem_toFinset])]
    unfold sends
    iintro ⟨#HK, HO, ⟨Hr, Hrs⟩, Hk⟩
    iapply (wp_send_at X K c e.o ho _ _ (off1_eq c e.o ho) _ (Fin.ext hd))
    isplitr; · iexact HK
    isplitl [HO]; · iexact HO
    isplitl [Hr]; · iexact Hr
    iintro ⟨HO, Hc⟩
    iapply (ih (fun e he => hl e (List.mem_cons_of_mem _ he)) hnd')
    isplitr; · iexact HK
    isplitl [HO]; · iexact HO
    isplitl [Hrs]; · iexact Hrs
    iintro ⟨HO, Hcs⟩
    iapply Hk
    isplitl [HO]; · iexact HO
    isplitl [Hc]; · iexact Hc
    iexact Hcs

/-! ## The closing waits -/

/-- What the wait for the copy `o` places on takes: its place on the send cell, and the credit; -/
def sentRes (c : Dev nD) (o : Fin 16) : sProp 𝕄 := iprop(atPos ER (sendCell c o) 0 ∅ 0 ∗ cred (tallyAt (sendCell c o) () N))
/-- and what it leaves: the source block back, the cell past its round. -/
def sentDone (c : Dev nD) (o : Fin 16) : sProp 𝕄 := iprop(atPos ER (sendCell c o) 1 ∅ 0 ∗ xPts X c (c + o))

/-- The closing waits of a list. -/
theorem runs_waitSends (c : Dev nD) (l : List (Fin 16)) (hl : ∀ o ∈ l, o ≠ 0) (hnd : l.Nodup) (k : PB F) (Q : PUnit → sProp 𝕄) :
    iprop(known X K ∗ owe c 0 ∗ bigSep l.toFinset (sentRes c)
        ∗ ((owe c 0 ∗ bigSep l.toFinset (sentDone X c)) -∗ runs c k Q))
      ⊢ runs c (waitSends l k) Q := by
  induction l generalizing Q with
  | nil =>
    iintro ⟨-, HO, -, Hk⟩
    unfold waitSends
    iapply Hk
    isplitl [HO]; · iexact HO
    rw [List.toFinset_nil, bigSep_empty]
    iempintro
  | cons o l ih =>
    obtain ⟨hj, hnd'⟩ := List.nodup_cons.mp hnd
    rw [List.toFinset_cons, sep_insert (by rwa [List.mem_toFinset]), sep_insert (by rwa [List.mem_toFinset])]
    unfold waitSends
    iintro ⟨#HK, HO, ⟨Hr, Hrs⟩, Hk⟩
    unfold sentRes
    icases HO with ⟨%W, HO⟩
    icases Hr with ⟨Hat, Hc⟩
    iapply (Rounds.wp_wait_rest_token 𝒱₀ ER (Rd X) (c : Thread nD τ) none (κ := K (c, kS o))
      (wpE_waitDma2_eq 𝒱₀ (c : Thread nD τ) none Set.univ) (Set.mem_univ _) () (O := 0) (W := W) (R := 0) (m := 0) (T := ∅)
      (by rw [Nat.zero_add, expect_send X c o (hl o List.mem_cons_self)])) $$ [Hc HO Hat]
    · isplitr; · iapply (known_inv X K _ _ (kc_S c o)); iexact HK
      isplitl [Hc]; · iexact Hc
      isplitl [HO]; · iexact HO
      isplitr; · rw [MayWait_zero]; iempintro
      iexact Hat
    iintro ⟨HO, Hat, -, Hp⟩
    ihave Hp := (Entails.of_eq (rest_send X c o (hl o List.mem_cons_self))) $$ Hp
    iapply (ih (fun e he => hl e (List.mem_cons_of_mem _ he)) hnd')
    isplitr; · iexact HK
    isplitl [HO]; · iexists _; iexact HO
    isplitl [Hrs]; · iexact Hrs
    iintro ⟨HO, Hcs⟩
    iapply Hk
    isplitl [HO]; · iexact HO
    isplitl [Hat Hp]
    · unfold sentDone; isplitl [Hat] <;> iassumption
    iexact Hcs

end Cert.KernelIdeal.Proof

end
-- ==== Proof.Local.lean ====
/-
  The device's own steps at a symbolic device: the copy of its own block, the double-buffered copies of the weights,
  the wait for a slot, the loads and stores, one accumulating round, and the rounds of a list.
-/
module

public import proofs.«01_k».proof.Proof.Steps

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : (c : Dev nD) → Buf (Elt F) ((c : Thread nD τ).loc cc0_stg0_0))
  (Wt : (c : Dev nD) → Buf (Elt F) ((c : Thread nD τ).loc main_arg1)) (K : Dev nD × Fin 33 → ℕ)

/-! ## The weights -/

/-- Row block `j` of device `c`'s weights, as values. -/
def wVal (c j : Dev nD) : S512x4096.Idx → Elt F .f32 := (wBlk j).view.read (Elt F) (Wt c)
/-- Device `c`'s row block `j` of the weights held, at what it holds throughout. -/
def wPts (c j : Dev nD) : sProp 𝕄 := (wBlk j).view.loc (c : Thread nD τ) ↦[(wBlk j).view.set]{fullShare} Wt c
/-- Weight buffer `b` held, at anything. -/
def bufAny (c : Dev nD) (b : Fin 2) : sProp 𝕄 :=
  iprop(∃ f, (wbuf b).view.loc (c : Thread nD τ) ↦[(wbuf b).view.set]{fullShare} f)
/-- Weight buffer `b` held, at row block `j` of the weights. -/
def bufFull (c : Dev nD) (b : Fin 2) (j : Dev nD) : sProp 𝕄 := owns (c : Thread nD τ) (wbuf b) fullShare (wVal Wt c j)
/-- A weight buffer not in use: held at anything, its semaphore at zero. -/
def bufFree (c : Dev nD) (b : Fin 2) : sProp 𝕄 := iprop(bufAny c b ∗ semVal ((c : Thread nD τ), .dma (wS b)) 0)

/-- What one copy of a row block of the weights counts. -/
abbrev NW : ℕ := (wbuf 0).view.dmaCredit
/-- A copy of a row block of the weights credits something. -/
theorem NW_pos : 0 < NW := View.dmaCredit_pos _ (by decide)

/-- A filled weight buffer is a weight buffer. -/
theorem bufFull_any (c : Dev nD) (b : Fin 2) (j : Dev nD) : (bufFull Wt c b j : sProp 𝕄) ⊢ bufAny c b := by
  unfold bufFull bufAny owns
  iintro ⟨%f, -, H⟩
  iexists f
  iexact H

/-- A row block written to a buffer is there. -/
theorem buf_written (c : Dev nD) (b : Fin 2) (j : Dev nD) (v : S512x4096.Idx → Elt F .f32) (hv : v = wVal Wt c j)
    (fd : Buf (Elt F) ((wbuf b).view.loc (c : Thread nD τ))) :
    ((wbuf b).view.loc (c : Thread nD τ) ↦[(wbuf b).view.set]{fullShare} ((wbuf b).view.write (Elt F) fd v Finset.univ) : sProp 𝕄)
      ⊢ bufFull Wt c b j := by
  subst hv
  unfold bufFull owns
  iintro H
  iexists ((wbuf b).view.write (Elt F) fd (wVal Wt c j) Finset.univ)
  isplitr; · ipureintro; exact View.read_write_univ _ _
  iexact H

/-! ## The local copies -/

/-- The printed offset of the device's own block is row `512 c`. -/
theorem off2_eq (c : Dev nD) : k0_off2 c = ![512 * c.val, 0] := by revert c; decide +kernel
/-- The printed offset of the weights of slot `s` is row `512 (c + s)`. -/
theorem off3_eq (c : Dev nD) (s : Fin 16) : k0_off3 c (BitVec.ofNat 32 s.val) = ![512 * (c + s).val, 0] := by
  revert c s; decide +kernel

/-- The copy of the own block, in flight: it brings slot 0 filled, and the block back. -/
abbrev ownFlight (c : Dev nD) : sProp 𝕄 := Flight EC (c : Thread nD τ) (.dma ownS) () N iprop(slotFull X c 0 ∗ xPts X c c)
/-- A copy of row block `j` of the weights, in flight. -/
abbrev wFlight (c : Dev nD) (b : Fin 2) (j : Dev nD) : sProp 𝕄 :=
  Flight EC (c : Thread nD τ) (.dma (wS b)) () NW iprop(bufFull Wt c b j ∗ wPts Wt c j)

/-- Starting the copy of the own block, at whatever offset is that of the block. -/
theorem wp_own_at (c : Dev nD) (off : Fin 2 → ℕ) (h : ∀ a, off a + S512x512.size a ≤ S8192x512.size a)
    (hoff : off = ![512 * c.val, 0]) {hsrc hdst hsem} (k : PB F) (Q : PUnit → sProp 𝕄) :
    iprop(xPts X c c ∗ slotAny c 0 ∗ semVal ((c : Thread nD τ), .dma ownS) 0 ∗ (ownFlight X c -∗ runs c k Q))
      ⊢ runs c (.op (.enqueueDma (xAt off h) (.here (slot 0)) (.dma ownS) hsrc hdst hsem) fun _ => k) Q := by
  subst hoff
  unfold slotAny
  iintro ⟨Hx, ⟨%fd, Hs⟩, Hv, Hk⟩
  iapply (wp_dmaLocal EC 𝒱₀ (c : Thread nD τ) none (src := xBlk c) (via := ReadAs.same) (dst := slot 0) (q := fullShare) (fs := X c) (fd := fd)
    (Sd := (slot 0).view.set) () N rfl N_pos subset_rfl) $$ [Hx Hs Hv]
  · isplitl [Hx]; · unfold xPts; iexact Hx
    isplitl [Hs]; · iexact Hs
    iexact Hv
  iintro HF
  iapply Hk
  iapply (Flight_mono EC (c : Thread nD τ) (D := iprop(((slot 0).view.loc (c : Thread nD τ) ↦[(slot 0).view.set]{fullShare}
      ((slot 0).view.write (Elt F) fd (ReadAs.same.apply ((xBlk c).view.read (Elt F) (X c))) Finset.univ))
      ∗ ((xBlk c).view.loc (c : Thread nD τ) ↦[(xBlk c).view.set]{fullShare} X c))) ?_) $$ HF
  iintro ⟨Hs, Hx⟩
  isplitl [Hs]
  · iapply (slot_written X c 0 _ (by rw [add_zero_dev]; rfl) fd) $$ Hs
  unfold xPts; iexact Hx

/-- The start of the copy of the own block; -/
theorem runs_startOwn (c : Dev nD) (k : PB F) (Q : PUnit → sProp 𝕄) :
    iprop(xPts X c c ∗ slotAny c 0 ∗ semVal ((c : Thread nD τ), .dma ownS) 0 ∗ (ownFlight X c -∗ runs c k Q))
      ⊢ runs c (startOwn c k) Q := wp_own_at X c _ _ (off2_eq c) k Q

/-- its wait. -/
theorem runs_waitOwn (c : Dev nD) (k : PB F) (Q : PUnit → sProp 𝕄) :
    iprop(ownFlight X c ∗ owe c 0
        ∗ ((slotFull X c 0 ∗ xPts X c c ∗ semVal ((c : Thread nD τ), .dma ownS) 0 ∗ owe c 0) -∗ runs c k Q))
      ⊢ runs c (waitOwn c k) Q := by
  unfold waitOwn
  iintro ⟨HF, ⟨%W, HO⟩, Hk⟩
  iapply (wp_waitLocalO EC 𝒱₀ (c : Thread nD τ) none (dstw := slot 0) () (N := N) rfl) $$ [HF HO]
  · isplitl [HF]; · iexact HF
    isplitl [HO]; · iexact HO
    rw [MayWait_zero]; iempintro
  iintro ⟨⟨Hs, Hx⟩, Hv, HO⟩
  iapply Hk
  isplitl [Hs]; · iexact Hs
  isplitl [Hx]; · iexact Hx
  isplitl [Hv]; · iexact Hv
  iexists _; iexact HO

/-- Starting a copy of a row block of the weights, at whatever offset is that of the block. -/
theorem wp_startW_at (c : Dev nD) (b : Fin 2) (j : Dev nD) (off : Fin 2 → ℕ) (h : ∀ a, off a + S512x4096.size a ≤ S8192x4096.size a)
    (hoff : off = ![512 * j.val, 0]) {hsrc hdst hsem} (k : PB F) (Q : PUnit → sProp 𝕄) :
    iprop(wPts Wt c j ∗ bufFree c b ∗ (wFlight Wt c b j -∗ runs c k Q))
      ⊢ runs c (.op (.enqueueDma (wAt off h) (.here (wbuf b)) (.dma (wS b)) hsrc hdst hsem) fun _ => k) Q := by
  subst hoff
  unfold bufFree bufAny
  iintro ⟨Hx, ⟨⟨%fd, Hs⟩, Hv⟩, Hk⟩
  iapply (wp_dmaLocal EC 𝒱₀ (c : Thread nD τ) none (src := wBlk j) (via := ReadAs.same) (dst := wbuf b) (q := fullShare) (fs := Wt c) (fd := fd)
    (Sd := (wbuf b).view.set) () NW rfl NW_pos subset_rfl) $$ [Hx Hs Hv]
  · isplitl [Hx]; · unfold wPts; iexact Hx
    isplitl [Hs]; · iexact Hs
    iexact Hv
  iintro HF
  iapply Hk
  iapply (Flight_mono EC (c : Thread nD τ) (D := iprop(((wbuf b).view.loc (c : Thread nD τ) ↦[(wbuf b).view.set]{fullShare}
      ((wbuf b).view.write (Elt F) fd (ReadAs.same.apply ((wBlk j).view.read (Elt F) (Wt c))) Finset.univ))
      ∗ ((wBlk j).view.loc (c : Thread nD τ) ↦[(wBlk j).view.set]{fullShare} Wt c))) ?_) $$ HF
  iintro ⟨Hs, Hx⟩
  isplitl [Hs]
  · iapply (buf_written Wt c b j (ReadAs.same.apply ((wBlk j).view.read (Elt F) (Wt c))) rfl fd) $$ Hs
  unfold wPts; iexact Hx

/-- The start of the copy of slot `s`'s weights to buffer `b`; -/
theorem runs_startW (c : Dev nD) (b : Fin 2) (s : Fin 16) (k : PB F) (Q : PUnit → sProp 𝕄) :
    iprop(wPts Wt c (c + s) ∗ bufFree c b ∗ (wFlight Wt c b (c + s) -∗ runs c k Q))
      ⊢ runs c (startW c b s k) Q := wp_startW_at Wt c b (c + s) _ _ (off3_eq c s) k Q

/-- its wait. -/
theorem runs_waitW (c : Dev nD) (b : Fin 2) (s : Fin 16) (j : Dev nD) (k : PB F) (Q : PUnit → sProp 𝕄) :
    iprop(wFlight Wt c b j ∗ owe c 0
        ∗ ((bufFull Wt c b j ∗ wPts Wt c j ∗ semVal ((c : Thread nD τ), .dma (wS b)) 0 ∗ owe c 0) -∗ runs c k Q))
      ⊢ runs c (waitW c b s k) Q := by
  unfold waitW
  iintro ⟨HF, ⟨%W, HO⟩, Hk⟩
  iapply (wp_waitLocalO EC 𝒱₀ (c : Thread nD τ) none (dstw := wbuf b) () (N := NW) rfl) $$ [HF HO]
  · isplitl [HF]; · iexact HF
    isplitl [HO]; · iexact HO
    rw [MayWait_zero]; iempintro
  iintro ⟨⟨Hs, Hx⟩, Hv, HO⟩
  iapply Hk
  isplitl [Hs]; · iexact Hs
  isplitl [Hx]; · iexact Hx
  isplitl [Hv]; · iexact Hv
  iexists _; iexact HO

/-! ## The wait for a slot -/

/-- What the wait for slot `s` takes: its place on the receive cell, and the credit. -/
def recvRes (c : Dev nD) (s : Fin 16) : sProp 𝕄 := iprop(atPos ER (recvCell c s) 0 ∅ 0 ∗ cred (tallyAt (recvCell c s) () N))

/-- The wait for slot `s` brings it filled with the sender's block. -/
theorem runs_waitRecv (c : Dev nD) (s : Fin 16) (hs : s ≠ 0) (k : PB F) (Q : PUnit → sProp 𝕄) :
    iprop(known X K ∗ owe c 0 ∗ recvRes c s
        ∗ ((owe c 0 ∗ atPos ER (recvCell c s) 1 ∅ 0 ∗ slotFull X c s) -∗ runs c k Q))
      ⊢ runs c (waitRecv s k) Q := by
  unfold waitRecv recvRes
  iintro ⟨#HK, ⟨%W, HO⟩, ⟨Hat, Hc⟩, Hk⟩
  iapply (Rounds.wp_wait_rest_token 𝒱₀ ER (Rd X) (c : Thread nD τ) none (κ := K (c, kR s))
    (wpE_waitDma2_eq 𝒱₀ (c : Thread nD τ) none Set.univ) (Set.mem_univ _) () (O := 0) (W := W) (R := 0) (m := 0) (T := ∅)
    (by rw [Nat.zero_add, expect_recv X c s hs])) $$ [Hc HO Hat]
  · isplitr; · iapply (known_inv X K _ _ (kc_R c s)); iexact HK
    isplitl [Hc]; · iexact Hc
    isplitl [HO]; · iexact HO
    isplitr; · rw [MayWait_zero]; iempintro
    iexact Hat
  iintro ⟨HO, Hat, -, Hp⟩
  ihave Hp := (Entails.of_eq (rest_recv X c s hs)) $$ Hp
  iapply Hk
  isplitl [HO]; · iexists _; iexact HO
  isplitl [Hat]; · iexact Hat
  iexact Hp

/-! ## Loads and stores -/

/-- The result buffer holds `v`. -/
def oPts (c : Dev nD) (v : FVec F S512x4096 .f32) : sProp 𝕄 := ((c : Thread nD τ).loc cc0_stg1_0) ↦{fullShare} v

/-- The offset of a whole access. -/
theorem zero2 : (![0, 0] : Fin 2 → ℕ) = fun _ => 0 := by decide

/-- The result's whole rectangle. -/
abbrev rO : Rect S512x4096 := Rect.unit (s := S512x4096) ![0, 0] S512x4096.size inb_S512x4096_S512x4096_0_0
/-- A load of the result's whole buffer reads it; -/
theorem read_out (v : FVec F S512x4096 .f32) : oM.view.readAt (Elt F) rO.toLoadRect v = v :=
  Memref.readAt_unit_zero (Elt F) cc0_stg1_0 zero2 _ v
/-- a store to it replaces it. -/
theorem write_out (v w : FVec F S512x4096 .f32) : (oM.access rO).write (Elt F) v w Finset.univ = w :=
  Memref.write_access_unit_zero_univ (Elt F) cc0_stg1_0 zero2 _ v w

/-- A load of the result brings what it holds. -/
theorem runs_loadO (c : Dev nD) (v : FVec F S512x4096 .f32) (k : Vec F S512x4096 .f32 → PB F) (Q : PUnit → sProp 𝕄) :
    iprop(oPts c v ∗ (oPts c v -∗ runs c (k v) Q)) ⊢ runs c (loadO k) Q := by
  unfold loadO oPts
  iintro ⟨H, Hk⟩
  iapply (wp_load 𝒱₀ (c : Thread nD τ) none Set.univ (m := oM) (Finset.subset_univ _)) $$ H
  iintro H
  rw [read_out]
  iapply Hk
  iexact H

/-- A store to the result leaves what is stored. -/
theorem runs_storeO (c : Dev nD) (v w : FVec F S512x4096 .f32) (k : PB F) (Q : PUnit → sProp 𝕄) :
    iprop(oPts c v ∗ (oPts c w -∗ runs c k Q)) ⊢ runs c (storeO w k) Q := by
  unfold storeO oPts
  iintro ⟨H, Hk⟩
  iapply (wp_store 𝒱₀ (c : Thread nD τ) none Set.univ (m := oM) (r := rO) (Mk := Finset.univ) (Finset.subset_univ _)) $$ H
  iintro H
  rw [write_out]
  iapply Hk
  iexact H

/-- The elements a load of slot `s` reads are the slot's; -/
theorem slot_setOn (s : Fin 16) :
    rM.view.setOn (Rect.unit (s := S16x512x512) ![s.val, 0, 0] S1x512x512.size (slot_inb s)).toLoadRect.set ⊆ (slot s).view.set := by
  intro i hi
  have : (slot s).view.set = rM.view.setOn (Rect.unit (s := S16x512x512) ![s.val, 0, 0] S1x512x512.size (slot_inb s)).toLoadRect.set :=
    (View.set_reshape _ _).trans (View.set_slice _ _)
  rw [this]; exact hi
/-- those a load of weight buffer `b` reads are the buffer's. -/
theorem wbuf_setOn (b : Fin 2) :
    bM.view.setOn (Rect.unit (s := S2x512x4096) ![b.val, 0, 0] S1x512x4096.size (buf_inb b)).toLoadRect.set ⊆ (wbuf b).view.set := by
  intro i hi
  have : (wbuf b).view.set = bM.view.setOn (Rect.unit (s := S2x512x4096) ![b.val, 0, 0] S1x512x4096.size (buf_inb b)).toLoadRect.set :=
    (View.set_reshape _ _).trans (View.set_slice _ _)
  rw [this]; exact hi

/-- A load of a filled slot brings a value whose cast to the block's shape is the block; -/
theorem runs_loadSlot (c : Dev nD) (s : Fin 16) (k : Vec F S1x512x512 .f32 → PB F) (Q : PUnit → sProp 𝕄) :
    iprop(slotFull X c s ∗ (∀ x, (⌜shapeCast S512x512 x shapeCasts_S1x512x512_S512x512 = blkVal X (c + s) c⌝ ∗ slotFull X c s) -∗ runs c (k x) Q))
      ⊢ runs c (loadSlot s k) Q := by
  unfold loadSlot slotFull owns
  iintro ⟨⟨%f, %hf, H⟩, Hk⟩
  iapply (wp_load 𝒱₀ (c : Thread nD τ) none Set.univ (m := rM) (slot_setOn s)) $$ H
  iintro H
  iapply Hk
  isplitr
  · ipureintro; rw [← hf]; rfl
  iexists f
  isplitr; · ipureintro; exact hf
  iexact H

/-- and so of a filled weight buffer. -/
theorem runs_loadW (c : Dev nD) (b : Fin 2) (j : Dev nD) (k : Vec F S1x512x4096 .f32 → PB F) (Q : PUnit → sProp 𝕄) :
    iprop(bufFull Wt c b j ∗ (∀ x, (⌜shapeCast S512x4096 x shapeCasts_S1x512x4096_S512x4096 = wVal Wt c j⌝ ∗ bufFull Wt c b j) -∗ runs c (k x) Q))
      ⊢ runs c (loadW b k) Q := by
  unfold loadW bufFull owns
  iintro ⟨⟨%f, %hf, H⟩, Hk⟩
  iapply (wp_load 𝒱₀ (c : Thread nD τ) none Set.univ (m := bM) (wbuf_setOn b)) $$ H
  iintro H
  iapply Hk
  isplitr
  · ipureintro; rw [← hf]; rfl
  iexists f
  isplitr; · ipureintro; exact hf
  iexact H

/-! ## The rounds -/

/-- The product of a block of `x` with a row block of the weights; -/
def prodV (A : S512x512.Idx → Elt F .f32) (B : S512x4096.Idx → Elt F .f32) : FVec F S512x4096 .f32 :=
  matmul (F := F) (φ₁ := .f32) (φ₂ := .f32) dot_S512x512_S512x4096_S512x4096_1_0_0_1_n_n none A B (constant S512x4096 .f32 0x00000000#32)
/-- the one slot `s` of device `c` contributes; -/
def termV (c : Dev nD) (s : Fin 16) : FVec F S512x4096 .f32 := prodV (blkVal X (c + s) c) (wVal Wt c (c + s))
/-- what a round leaves of what the result held. -/
def stepV (c : Dev nD) (acc : FVec F S512x4096 .f32) (s : Fin 16) : FVec F S512x4096 .f32 := addf acc (termV X Wt c s)

/-- The first round computes the product of what was loaded. -/
theorem prodOf_eq (x : Vec F S1x512x512 .f32) (w : Vec F S1x512x4096 .f32) (A : S512x512.Idx → Elt F .f32) (B : S512x4096.Idx → Elt F .f32)
    (hx : shapeCast S512x512 x shapeCasts_S1x512x512_S512x512 = A) (hw : shapeCast S512x4096 w shapeCasts_S1x512x4096_S512x4096 = B) :
    prodOf x w = prodV A B := by subst hx hw; rfl
/-- A later round adds the product of what was loaded to what the result held. -/
theorem accOf_eq (x : Vec F S1x512x512 .f32) (w : Vec F S1x512x4096 .f32) (o : FVec F S512x4096 .f32) (A : S512x512.Idx → Elt F .f32)
    (B : S512x4096.Idx → Elt F .f32)
    (hx : shapeCast S512x512 x shapeCasts_S1x512x512_S512x512 = A) (hw : shapeCast S512x4096 w shapeCasts_S1x512x4096_S512x4096 = B) :
    accOf x w o = addf o (prodV A B) := by
  subst hx hw
  show addf (shapeCast S512x4096 o shapeCasts_S512x4096_S512x4096) _ = _
  rw [show shapeCast S512x4096 o shapeCasts_S512x4096_S512x4096 = o from
    funext fun i => congrArg o (Shape.reshapeEquiv_self _ i)]
  rfl

/-- What a slot's round leaves: the slot filled, the row block of the weights back, the receive cell past its round. -/
def slotDone (c : Dev nD) (s : Fin 16) : sProp 𝕄 := iprop(slotFull X c s ∗ wPts Wt c (c + s) ∗ atPos ER (recvCell c s) 1 ∅ 0)

/-- One accumulating round. -/
theorem runs_round (c : Dev nD) (b : Fin 2) (s : Fin 16) (hs : s ≠ 0) (acc : FVec F S512x4096 .f32) (k : PB F) (Q : PUnit → sProp 𝕄) :
    iprop(known X K ∗ owe c 0 ∗ wFlight Wt c b (c + s) ∗ recvRes c s ∗ oPts c acc
        ∗ ((owe c 0 ∗ bufFree c b ∗ slotDone X Wt c s ∗ oPts c (stepV X Wt c acc s)) -∗ runs c k Q))
      ⊢ runs c (round c b s k) Q := by
  unfold round
  iintro ⟨#HK, HO, HF, Hr, Ho, Hk⟩
  iapply (runs_waitW Wt c b s (c + s))
  isplitl [HF]; · iexact HF
  isplitl [HO]; · iexact HO
  iintro ⟨Hb, Hw, Hv, HO⟩
  iapply (runs_waitRecv X K c s hs)
  isplitr; · iexact HK
  isplitl [HO]; · iexact HO
  isplitl [Hr]; · iexact Hr
  iintro ⟨HO, Hat, Hs⟩
  iapply (runs_loadSlot X c s)
  isplitl [Hs]; · iexact Hs
  iintro %x ⟨%hx, Hs⟩
  iapply (runs_loadW Wt c b (c + s))
  isplitl [Hb]; · iexact Hb
  iintro %w ⟨%hw, Hb⟩
  iapply (runs_loadO c acc)
  isplitl [Ho]; · iexact Ho
  iintro Ho
  iapply (runs_loadO c acc)
  isplitl [Ho]; · iexact Ho
  iintro Ho
  iapply (runs_storeO c acc)
  isplitl [Ho]; · iexact Ho
  rw [accOf_eq x w acc _ _ hx hw]
  iintro Ho
  iapply Hk
  isplitl [HO]; · iexact HO
  isplitl [Hb Hv]
  · unfold bufFree
    isplitl [Hb]; · iapply (bufFull_any Wt c b (c + s)) $$ Hb
    iexact Hv
  isplitl [Hs Hw Hat]
  · unfold slotDone
    isplitl [Hs]; · iexact Hs
    isplitl [Hw]; · iexact Hw
    iexact Hat
  unfold stepV termV; iexact Ho

/-- The other of the other weight buffer. -/
theorem flip_flip (b : Fin 2) : 1 - (1 - b) = b := by revert b; decide

/-- The rounds of a list of at least two slots, the first two's weights in flight: every slot's product is added, in order. -/
theorem runs_rounds (c : Dev nD) (l : List (Fin 16)) (b : Fin 2) (s t : Fin 16) (hl : ∀ u ∈ s :: t :: l, u ≠ 0)
    (hnd : (s :: t :: l).Nodup) (acc : FVec F S512x4096 .f32) (k : PB F) (Q : PUnit → sProp 𝕄) :
    iprop(known X K ∗ owe c 0 ∗ wFlight Wt c b (c + s) ∗ wFlight Wt c (1 - b) (c + t)
        ∗ bigSep l.toFinset (fun u => wPts Wt c (c + u)) ∗ bigSep (s :: t :: l).toFinset (recvRes c) ∗ oPts c acc
        ∗ ((owe c 0 ∗ (∃ b', bufFree c b' ∗ bufFree c (1 - b')) ∗ bigSep (s :: t :: l).toFinset (slotDone X Wt c)
            ∗ oPts c ((s :: t :: l).foldl (stepV X Wt c) acc)) -∗ runs c k Q))
      ⊢ runs c (rounds c b (s :: t :: l) k) Q := by
  induction l generalizing b s t acc Q with
  | nil =>
    have hst : s ∉ [t].toFinset := by rw [List.mem_toFinset]; exact (List.nodup_cons.mp hnd).1
    have ht : t ∉ ([] : List (Fin 16)).toFinset := by simp
    rw [List.toFinset_cons, sep_insert hst, sep_insert hst, List.toFinset_cons, sep_insert ht, sep_insert ht]
    iintro ⟨#HK, HO, Hs, Ht, -, ⟨Hrs, Hrt, -⟩, Ho, Hk⟩
    unfold rounds
    iapply (runs_round X Wt K c b s (hl s (by simp)))
    isplitr; · iexact HK
    isplitl [HO]; · iexact HO
    isplitl [Hs]; · iexact Hs
    isplitl [Hrs]; · iexact Hrs
    isplitl [Ho]; · iexact Ho
    iintro ⟨HO, Hb, Hds, Ho⟩
    unfold rounds
    iapply (runs_round X Wt K c (1 - b) t (hl t (by simp)))
    isplitr; · iexact HK
    isplitl [HO]; · iexact HO
    isplitl [Ht]; · iexact Ht
    isplitl [Hrt]; · iexact Hrt
    isplitl [Ho]; · iexact Ho
    iintro ⟨HO, Hb', Hdt, Ho⟩
    unfold rounds
    iapply Hk
    isplitl [HO]; · iexact HO
    isplitl [Hb Hb']
    · iexists b
      isplitl [Hb]; · iexact Hb
      iexact Hb'
    isplitl [Hds Hdt]
    · isplitl [Hds]; · iexact Hds
      isplitl [Hdt]; · iexact Hdt
      rw [List.toFinset_nil, bigSep_empty]
      iempintro
    iexact Ho
  | cons u l ih =>
    have hs : s ∉ (t :: u :: l).toFinset := by rw [List.mem_toFinset]; exact (List.nodup_cons.mp hnd).1
    have hnd' := (List.nodup_cons.mp hnd).2
    have hu : u ∉ l.toFinset := by rw [List.mem_toFinset]; exact (List.nodup_cons.mp (List.nodup_cons.mp hnd').2).1
    rw [List.toFinset_cons (a := s), sep_insert hs, sep_insert hs, List.toFinset_cons (a := u) (l := l), sep_insert hu]
    iintro ⟨#HK, HO, Hs, Ht, ⟨Hwu, Hwl⟩, ⟨Hrs, Hrl⟩, Ho, Hk⟩
    unfold rounds
    iapply (runs_round X Wt K c b s (hl s (by simp)))
    isplitr; · iexact HK
    isplitl [HO]; · iexact HO
    isplitl [Hs]; · iexact Hs
    isplitl [Hrs]; · iexact Hrs
    isplitl [Ho]; · iexact Ho
    iintro ⟨HO, Hb, Hds, Ho⟩
    iapply (runs_startW Wt c b u)
    isplitl [Hwu]; · iexact Hwu
    isplitl [Hb]; · iexact Hb
    iintro Hu
    iapply (ih (1 - b) t u (fun v hv => hl v (List.mem_cons_of_mem _ hv)) hnd')
    rw [flip_flip]
    isplitr; · iexact HK
    isplitl [HO]; · iexact HO
    isplitl [Ht]; · iexact Ht
    isplitl [Hu]; · iexact Hu
    isplitl [Hwl]; · iexact Hwl
    isplitl [Hrl]; · iexact Hrl
    isplitl [Ho]; · iexact Ho
    iintro ⟨HO, Hb, Hd, Ho⟩
    iapply Hk
    isplitl [HO]; · iexact HO
    isplitl [Hb]; · iexact Hb
    isplitl [Hds Hd]
    · isplitl [Hds]; · iexact Hds
      iexact Hd
    iexact Ho

/-- The first round: the own block's product overwrites the result. -/
theorem runs_round0 (c : Dev nD) (v : FVec F S512x4096 .f32) (k : PB F) (Q : PUnit → sProp 𝕄) :
    iprop(owe c 0 ∗ wFlight Wt c 0 (c + 0) ∗ ownFlight X c ∗ oPts c v
        ∗ ((owe c 0 ∗ bufFree c 0 ∗ slotFull X c 0 ∗ wPts Wt c (c + 0) ∗ xPts X c c ∗ semVal ((c : Thread nD τ), .dma ownS) 0
            ∗ oPts c (termV X Wt c 0)) -∗ runs c k Q))
      ⊢ runs c (round0 c k) Q := by
  unfold round0
  iintro ⟨HO, HF, HX, Ho, Hk⟩
  iapply (runs_waitW Wt c 0 0 (c + 0))
  isplitl [HF]; · iexact HF
  isplitl [HO]; · iexact HO
  iintro ⟨Hb, Hw, Hv, HO⟩
  iapply (runs_waitOwn X c)
  isplitl [HX]; · iexact HX
  isplitl [HO]; · iexact HO
  iintro ⟨Hs, Hx, Hz, HO⟩
  iapply (runs_loadSlot X c 0)
  isplitl [Hs]; · iexact Hs
  iintro %x ⟨%hx, Hs⟩
  iapply (runs_loadW Wt c 0 (c + 0))
  isplitl [Hb]; · iexact Hb
  iintro %w ⟨%hw, Hb⟩
  iapply (runs_loadO c v)
  isplitl [Ho]; · iexact Ho
  iintro Ho
  iapply (runs_storeO c v)
  isplitl [Ho]; · iexact Ho
  rw [prodOf_eq x w _ _ hx hw]
  iintro Ho
  iapply Hk
  isplitl [HO]; · iexact HO
  isplitl [Hb Hv]
  · unfold bufFree
    isplitl [Hb]; · iapply (bufFull_any Wt c 0 (c + 0)) $$ Hb
    iexact Hv
  isplitl [Hs]; · iexact Hs
  isplitl [Hw]; · iexact Hw
  isplitl [Hx]; · iexact Hx
  isplitl [Hz]; · iexact Hz
  unfold termV; iexact Ho

/-- The end: the activation applied. -/
theorem runs_finish (c : Dev nD) (v : FVec F S512x4096 .f32) (k : PB F) (Q : PUnit → sProp 𝕄) :
    iprop(oPts c v ∗ (oPts c (geluOf v) -∗ runs c k Q)) ⊢ runs c (finish k) Q := by
  unfold finish
  iintro ⟨Ho, Hk⟩
  iapply (runs_loadO c v)
  isplitl [Ho]; · iexact Ho
  iintro Ho
  iapply (runs_loadO c v)
  isplitl [Ho]; · iexact Ho
  iintro Ho
  iapply (runs_storeO c v)
  isplitl [Ho]; · iexact Ho
  iexact Hk

end Cert.KernelIdeal.Proof

end
-- ==== Proof.Whole.lean ====
/-
  Whole buffers and their pieces: the receive buffer and its sixteen slots, the weight buffers, the sixteen row blocks
  of the columns of `x` and of the weights; the families of the exchange, counted from the device itself.
-/
module

public import proofs.«01_k».proof.Proof.Local
public import Idealize.ShloMosaic.Lib.Ring

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : (c : Dev nD) → Buf (Elt F) ((c : Thread nD τ).loc cc0_stg0_0))
  (Wt : (c : Dev nD) → Buf (Elt F) ((c : Thread nD τ).loc main_arg1)) (K : Dev nD × Fin 33 → ℕ)

/-! ## The element sets of the pieces -/

/-- The elements of slot `s`; -/
theorem slot_set (s : Fin 16) :
    (slot s).view.set = (Rect.unit (s := S16x512x512) ![s.val, 0, 0] S1x512x512.size (slot_inb s)).set :=
  (View.set_reshape ..).trans (View.set_slice_whole ..)
/-- of weight buffer `b`. -/
theorem wbuf_set (b : Fin 2) :
    (wbuf b).view.set = (Rect.unit (s := S2x512x4096) ![b.val, 0, 0] S1x512x4096.size (buf_inb b)).set :=
  (View.set_reshape ..).trans (View.set_slice_whole ..)

/-- A row block lies inside the columns of `x`; -/
theorem xBlk_inb : ∀ (j : Fin 16) (a : Fin 2), (![512 * j.val, 0] : Fin 2 → ℕ) a + S512x512.size a ≤ S8192x512.size a := by decide
/-- and inside the weights. -/
theorem wBlk_inb : ∀ (j : Fin 16) (a : Fin 2), (![512 * j.val, 0] : Fin 2 → ℕ) a + S512x4096.size a ≤ S8192x4096.size a := by decide
/-- The elements of row block `j` of the columns of `x`; -/
theorem xBlk_set (j : Dev nD) :
    (xBlk j).view.set = (Rect.unit (s := S8192x512) ![512 * j.val, 0] S512x512.size (xBlk_inb j)).set := View.set_slice_whole ..
/-- of the weights. -/
theorem wBlk_set (j : Dev nD) :
    (wBlk j).view.set = (Rect.unit (s := S8192x4096) ![512 * j.val, 0] S512x4096.size (wBlk_inb j)).set := View.set_slice_whole ..

/-! Of each kind, two are apart, and together they are the buffer. -/

/-- The slots are disjoint -/
theorem slot_disjoint (b b' : Fin 16) (h : b ≠ b') : Disjoint (slot b).view.set (slot b').view.set := by
  rw [slot_set, slot_set]
  exact Ring.lead_disjoint (s := S16x512x512) 0 1 (fun b : Fin 16 => ![b.val, 0, 0]) S1x512x512.size slot_inb (by decide) (by decide) b b' h
/-- and make up the receive buffer; -/
theorem slot_cover : Finset.biUnion (β := S16x512x512.Idx) Finset.univ (fun b : Fin 16 => (slot b).view.set) = Finset.univ :=
  (Finset.biUnion_congr rfl fun b _ => slot_set b).trans
    (Ring.lead_cover (s := S16x512x512) 0 1 (fun b : Fin 16 => ![b.val, 0, 0]) S1x512x512.size slot_inb (by decide) (by decide) (by decide) (by decide) (by decide))
/-- the weight buffers are disjoint -/
theorem wbuf_disjoint (b b' : Fin 2) (h : b ≠ b') : Disjoint (wbuf b).view.set (wbuf b').view.set := by
  rw [wbuf_set, wbuf_set]
  exact Ring.lead_disjoint (s := S2x512x4096) 0 1 (fun b : Fin 2 => ![b.val, 0, 0]) S1x512x4096.size buf_inb (by decide) (by decide) b b' h
/-- and make up the pair; -/
theorem wbuf_cover : Finset.biUnion (β := S2x512x4096.Idx) Finset.univ (fun b : Fin 2 => (wbuf b).view.set) = Finset.univ :=
  (Finset.biUnion_congr rfl fun b _ => wbuf_set b).trans
    (Ring.lead_cover (s := S2x512x4096) 0 1 (fun b : Fin 2 => ![b.val, 0, 0]) S1x512x4096.size buf_inb (by decide) (by decide) (by decide) (by decide) (by decide))
/-- the row blocks are disjoint -/
theorem xBlk_disjoint (b b' : Dev nD) (h : b ≠ b') : Disjoint (xBlk b).view.set (xBlk b').view.set := by
  rw [xBlk_set, xBlk_set]
  exact Ring.lead_disjoint (s := S8192x512) 0 512 (fun b : Dev nD => ![512 * b.val, 0]) S512x512.size xBlk_inb (by decide) (by decide) b b' h
/-- and make up the columns of `x`; -/
theorem xBlk_cover : Finset.biUnion (β := S8192x512.Idx) Finset.univ (fun b : Dev nD => (xBlk b).view.set) = Finset.univ :=
  (Finset.biUnion_congr rfl fun b _ => xBlk_set b).trans
    (Ring.lead_cover (s := S8192x512) 0 512 (fun b : Dev nD => ![512 * b.val, 0]) S512x512.size xBlk_inb (by decide) (by decide) (by decide) (by decide) (by decide))
/-- so those of the weights, -/
theorem wBlk_disjoint (b b' : Dev nD) (h : b ≠ b') : Disjoint (wBlk b).view.set (wBlk b').view.set := by
  rw [wBlk_set, wBlk_set]
  exact Ring.lead_disjoint (s := S8192x4096) 0 512 (fun b : Dev nD => ![512 * b.val, 0]) S512x4096.size wBlk_inb (by decide) (by decide) b b' h
/-- which they make up. -/
theorem wBlk_cover : Finset.biUnion (β := S8192x4096.Idx) Finset.univ (fun b : Dev nD => (wBlk b).view.set) = Finset.univ :=
  (Finset.biUnion_congr rfl fun b _ => wBlk_set b).trans
    (Ring.lead_cover (s := S8192x4096) 0 512 (fun b : Dev nD => ![512 * b.val, 0]) S512x4096.size wBlk_inb (by decide) (by decide) (by decide) (by decide) (by decide))

/-! ## The whole and its pieces -/

/-- A buffer held piece by piece at one content is held piece by piece at some. -/
theorem pieces_any {ℓ : Loc nD τ sig} {B : Type} (s : Finset B) (I : B → Finset (Idx ℓ)) (f : Buf (Elt F) ℓ) :
    (bigSep s fun b => ℓ ↦[I b]{fullShare} f : sProp 𝕄) ⊢ bigSep s fun b => iprop(∃ f, ℓ ↦[I b]{fullShare} f) :=
  bigSep_mono fun b _ => by
    show (ℓ ↦[I b]{fullShare} f : sProp 𝕄) ⊢ iprop(∃ f, ℓ ↦[I b]{fullShare} f)
    iintro H
    iexists f
    iexact H

/-- A device's columns of `x`, held; -/
abbrev xWhole (c : Dev nD) : sProp 𝕄 := (c : Thread nD τ).loc cc0_stg0_0 ↦{fullShare} X c
/-- its weights; -/
abbrev wWhole (c : Dev nD) : sProp 𝕄 := (c : Thread nD τ).loc main_arg1 ↦{fullShare} Wt c
/-- its receive buffer, at anything; -/
abbrev slotsWhole (c : Dev nD) : sProp 𝕄 := iprop(∃ f : Buf (Elt F) ((c : Thread nD τ).loc cc0_scratch0), (c : Thread nD τ).loc cc0_scratch0 ↦{fullShare} f)
/-- its weight buffers, at anything. -/
abbrev bufsWhole (c : Dev nD) : sProp 𝕄 := iprop(∃ f : Buf (Elt F) ((c : Thread nD τ).loc cc0_scratch1), (c : Thread nD τ).loc cc0_scratch1 ↦{fullShare} f)

/-- The columns of `x` are their row blocks; -/
theorem x_blocks (c : Dev nD) : xWhole X c = bigSep Finset.univ fun j => xPts X c j :=
  Ring.pointsTo_blocks (ℓ := (c : Thread nD τ).loc cc0_stg0_0) (fun b => (xBlk b).view.set) xBlk_disjoint xBlk_cover (X c)
/-- the weights are theirs. -/
theorem w_blocks (c : Dev nD) : wWhole Wt c = bigSep Finset.univ fun j => wPts Wt c j :=
  Ring.pointsTo_blocks (ℓ := (c : Thread nD τ).loc main_arg1) (fun b => (wBlk b).view.set) wBlk_disjoint wBlk_cover (Wt c)

/-- The receive buffer is split into slots -/
theorem slots_split (c : Dev nD) : slotsWhole (F := F) c ⊢ bigSep Finset.univ fun s => slotAny (F := F) c s := by
  iintro ⟨%f, H⟩
  ihave H := (Entails.of_eq (Ring.pointsTo_blocks (ℓ := (c : Thread nD τ).loc cc0_scratch0) (fun b => (slot b).view.set) slot_disjoint slot_cover f)) $$ H
  iapply (pieces_any (ℓ := (c : Thread nD τ).loc cc0_scratch0) Finset.univ (fun b => (slot b).view.set) f) $$ H
/-- and joined again. -/
theorem slots_join (c : Dev nD) (f₀ : Buf (Elt F) ((c : Thread nD τ).loc cc0_scratch0)) :
    (bigSep Finset.univ fun s => slotAny (F := F) c s) ⊢ slotsWhole (F := F) c :=
  Ring.pointsTo_blocks_join_exists (ℓ := (c : Thread nD τ).loc cc0_scratch0) (fun b => (slot b).view.set) slot_disjoint slot_cover f₀

/-- The weight buffers are split -/
theorem bufs_split (c : Dev nD) : bufsWhole (F := F) c ⊢ iprop(bufAny (F := F) c 0 ∗ bufAny (F := F) c 1) := by
  iintro ⟨%f, H⟩
  ihave H := (Entails.of_eq (Ring.pointsTo_blocks (ℓ := (c : Thread nD τ).loc cc0_scratch1) (fun b => (wbuf b).view.set) wbuf_disjoint wbuf_cover f)) $$ H
  ihave H := (pieces_any (ℓ := (c : Thread nD τ).loc cc0_scratch1) Finset.univ (fun b => (wbuf b).view.set) f) $$ H
  iapply (show (bigSep Finset.univ fun b => bufAny (F := F) c b) ⊢ iprop(bufAny (F := F) c 0 ∗ bufAny (F := F) c 1) from
    Entails.of_eq (bigSep_fin_two (fun b => bufAny (F := F) c b)))
  unfold bufAny
  iexact H
/-- and joined. -/
theorem bufs_join (c : Dev nD) (f₀ : Buf (Elt F) ((c : Thread nD τ).loc cc0_scratch1)) :
    iprop(bufAny (F := F) c 0 ∗ bufAny (F := F) c 1) ⊢ bufsWhole (F := F) c := by
  refine (Entails.of_eq (bigSep_fin_two (fun b => bufAny (F := F) c b)).symm).trans ?_
  exact Ring.pointsTo_blocks_join_exists (ℓ := (c : Thread nD τ).loc cc0_scratch1) (fun b => (wbuf b).view.set) wbuf_disjoint wbuf_cover f₀

/-! ## Families counted from a device -/

/-- Going round from `c`; -/
def ahead (c : Dev nD) : Dev nD ≃ Dev nD where
  toFun o := c + o
  invFun j := j - c
  left_inv := by revert c; decide
  right_inv := by revert c; decide
/-- The devices, by their distance from `c`; -/
theorem around (c : Dev nD) (Φ : Dev nD → sProp 𝕄) : bigSep Finset.univ Φ = bigSep Finset.univ fun o => Φ (c + o) :=
  bigSep_univ_equiv (ahead c) Φ
/-- the others, by theirs; -/
theorem around_others (c : Dev nD) (Φ : Dev nD → sProp 𝕄) :
    bigSep (Finset.univ.erase c) Φ = bigSep (Finset.univ.erase (0 : Dev nD)) fun o => Φ (c + o) := by
  have h : (Finset.univ.erase c) = (Finset.univ.erase (0 : Dev nD)).map (ahead c).toEmbedding := by revert c; decide
  rw [h, bigSep_map]; rfl
/-- the slots, by the device that each is handed to. -/
theorem around_slots (c : Dev nD) (Φ : Dev nD → sProp 𝕄) : bigSep Finset.univ Φ = bigSep Finset.univ fun j => Φ (j - c) :=
  bigSep_univ_equiv (ahead c).symm Φ

/-- A family over the exchange's semaphores of a device: the barrier's, the send ones', the receive ones'. -/
theorem cells_split (Φ : Fin 33 → sProp 𝕄) :
    bigSep Finset.univ Φ = iprop(Φ kB ∗ (bigSep Finset.univ fun o => Φ (kS o)) ∗ bigSep Finset.univ fun s => Φ (kR s)) := by
  have hu : (Finset.univ : Finset (Fin 33)) = insert kB ((Finset.univ.map ⟨kS, by decide⟩) ∪ (Finset.univ.map ⟨kR, by decide⟩)) := by decide
  rw [hu, sep_insert (by decide), bigSep_union (by decide), bigSep_map, bigSep_map]
  rfl

end Cert.KernelIdeal.Proof

end
-- ==== Proof.Body.lean ====
/-
  The whole body on one device, from what the launch hands it to what it hands back: every buffer whole again, every
  semaphore at zero, and the result's buffer at the activation of the sixteen accumulated products.
-/
module

public import proofs.«01_k».proof.Proof.Whole

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : (c : Dev nD) → Buf (Elt F) ((c : Thread nD τ).loc cc0_stg0_0))
  (Wt : (c : Dev nD) → Buf (Elt F) ((c : Thread nD τ).loc main_arg1)) (K : Dev nD × Fin 33 → ℕ)

/-- The fifteen distances, or slots, other than a device's own. -/
abbrev others : Finset (Fin 16) := Finset.univ.erase 0

/-- A family over all sixteen: the first and the others. -/
theorem first_others (Φ : Fin 16 → sProp 𝕄) : bigSep Finset.univ Φ = iprop(Φ 0 ∗ bigSep others Φ) := sep_take (Finset.mem_univ 0)

/-! ## What a device starts from and ends with -/

/-- The rights a device spends: its fifteen signals, and both ends of its fifteen copies (one more of each is unused). -/
def toks (c : Dev nD) : sProp 𝕄 :=
  iprop((bigSep Finset.univ fun j : Dev nD => dutyTok ER (barCell j) 0 c)
    ∗ (bigSep Finset.univ fun o : Fin 16 => dutyTok ER (sendCell c o) 0 0)
    ∗ (bigSep Finset.univ fun o : Fin 16 => dutyTok ER (recvCell (c + o) (-o)) 0 0))

/-- Its cells' positions at the start. -/
def places (c : Dev nD) : sProp 𝕄 := bigSep Finset.univ fun k => atPos ER (kcell (c, k)) 0 ∅ 0

/-- The exchange's semaphores at zero; -/
def cellZeros (c : Dev nD) : sProp 𝕄 := bigSep Finset.univ fun k => semVal (kcell (c, k)) 0
/-- those of the local copies at zero. -/
def localZeros (c : Dev nD) : sProp 𝕄 :=
  iprop(semVal ((c : Thread nD τ), .dma (wS 0)) 0 ∗ semVal ((c : Thread nD τ), .dma (wS 1)) 0 ∗ semVal ((c : Thread nD τ), .dma ownS) 0)

/-- The credit a device waits with. -/
def credits (c : Dev nD) : sProp 𝕄 :=
  iprop(cred (tallyAt (barCell c) () 15) ∗ bigSep others fun s => cred (tallyAt (recvCell c s) () N))

/-- What the body leaves in the result. -/
def outV (c : Dev nD) : FVec F S512x4096 .f32 := geluOf (slotList.foldl (stepV X Wt c) (termV X Wt c 0))

/-- The buffers. -/
def buffers (c : Dev nD) : sProp 𝕄 := iprop(slotsWhole c ∗ bufsWhole c ∗ wWhole Wt c ∗ xWhole X c)

/-- What the launch hands the body: the shared knowledge, its tokens, places and credits, its buffers and what it owes. -/
def bodyIn (c : Dev nD) : sProp 𝕄 :=
  iprop(known X K ∗ levAts L lv ∗ toks c ∗ places c ∗ localZeros c ∗ credits c ∗ buffers X Wt c ∗ owe c (O₀ c) ∗ ∃ v, oPts c v)

/-- What the body hands back: the buffers, every semaphore at zero, nothing owed, and the result. -/
def bodyOut (c : Dev nD) : sProp 𝕄 :=
  iprop(buffers X Wt c ∗ cellZeros c ∗ localZeros c ∗ owe c 0 ∗ oPts c (outV X Wt c))

/-! ## Regroupings -/

/-- A device is no places after itself. -/
theorem sub_self_dev (c : Dev nD) : c - c = 0 := by revert c; decide

/-- The rights to signal and the slots to hand over, signal by signal; slot 0 is not handed over. -/
theorem sigRes_all (c : Dev nD) :
    iprop((bigSep Finset.univ fun j : Dev nD => dutyTok ER (barCell j) 0 c) ∗ (bigSep Finset.univ fun s => slotAny (F := F) c s))
      ⊢ iprop(slotAny c 0 ∗ bigSep Finset.univ (sigRes (F := F) c)) := by
  have h : bigSep (Finset.univ.erase c) (sigRes (F := F) c)
      = iprop((bigSep (Finset.univ.erase c) fun j : Dev nD => dutyTok ER (barCell j) 0 c) ∗ bigSep (Finset.univ.erase c) fun j => slotAny (F := F) c (j - c)) := by
    rw [← bigSep_sep']
    exact bigSep_congr fun j hj => by unfold sigRes; rw [if_neg (Finset.ne_of_mem_erase hj)]
  have hc := sub_self_dev c
  rw [around_slots c (fun s => slotAny (F := F) c s), sep_take (Finset.mem_univ c), sep_take (Finset.mem_univ c) (Φ := fun j => slotAny (F := F) c (j - c)),
    sep_take (Finset.mem_univ c) (Φ := sigRes (F := F) c), h, hc]
  iintro ⟨⟨-, Ht⟩, Hs, Hr⟩
  isplitl [Hs]; · iexact Hs
  isplitr; · unfold sigRes; rw [if_pos rfl]; iempintro
  isplitl [Ht]; · iexact Ht
  iexact Hr

/-- What the copies take, copy by copy. -/
theorem sendRes_all (c : Dev nD) :
    iprop((bigSep others fun o => xPts X c (c + o)) ∗ bigSep (Finset.univ.erase c) (barPay (F := F) c)
        ∗ (bigSep others fun o => dutyTok ER (sendCell c o) 0 0) ∗ (bigSep others fun o => dutyTok ER (recvCell (c + o) (-o)) 0 0))
      ⊢ bigSep others (sendRes X c) := by
  rw [around_others c (barPay (F := F) c)]
  unfold sendRes barPay
  simp only [sub_dev]
  rw [bigSep_sep', bigSep_sep', bigSep_sep']

/-- A filled slot is a slot at anything. -/
theorem slotFull_any (c : Dev nD) (s : Fin 16) : (slotFull X c s : sProp 𝕄) ⊢ slotAny c s := by
  unfold slotFull slotAny owns
  iintro ⟨%f, -, H⟩
  iexists f
  iexact H

/-- The two weight buffers, whichever is named first. -/
theorem bufs_back (c : Dev nD) (b : Fin 2) : iprop(bufFree (F := F) c b ∗ bufFree c (1 - b))
    ⊢ iprop((bufAny (F := F) c 0 ∗ bufAny (F := F) c 1) ∗ semVal ((c : Thread nD τ), .dma (wS 0)) 0 ∗ semVal ((c : Thread nD τ), .dma (wS 1)) 0) := by
  have h : b = 0 ∨ b = 1 := by revert b; decide
  unfold bufFree
  rcases h with rfl | rfl
  · iintro ⟨⟨H0, Hv0⟩, H1, Hv1⟩
    isplitl [H0 H1]
    · isplitl [H0]; · iexact H0
      iexact H1
    isplitl [Hv0]; · iexact Hv0
    iexact Hv1
  · iintro ⟨⟨H1, Hv1⟩, H0, Hv0⟩
    isplitl [H0 H1]
    · isplitl [H0]; · iexact H0
      iexact H1
    isplitl [Hv0]; · iexact Hv0
    iexact Hv1

/-! ## The cells close -/

/-- A cell past its last round closes: its counter, at zero, is the device's again; -/
theorem close_one (ck : Dev nD × Fin 33) (g : GSem nD τ sig) (h : kcell ck = g) (R : ℕ) (hR : ∀ r, R ≤ r → (Rd X).duties g r = ∅) :
    iprop(known X K ∗ atPos ER g R ∅ 0) ⊢ (iprop(|={Set.univ}=> semVal g 0) : sProp 𝕄) := by
  iintro ⟨#HK, Hat⟩
  iapply (Rounds.cell_close ER (Rd X) (Set.mem_univ (K ck)) (fun h => h) hR)
  isplitr; · iapply (known_inv X K ck g h); iexact HK
  iexact Hat

/-- a family of them. -/
theorem close_all (s : Finset (Fin 16)) (g : Fin 16 → GSem nD τ sig) (k : Fin 16 → Dev nD × Fin 33) (h : ∀ o, kcell (k o) = g o) (R : ℕ)
    (hR : ∀ o r, R ≤ r → (Rd X).duties (g o) r = ∅) :
    iprop(known X K ∗ bigSep s fun o => atPos ER (g o) R ∅ 0) ⊢ (iprop(|={Set.univ}=> bigSep s fun o => semVal (g o) 0) : sProp 𝕄) := by
  induction s using Finset.induction_on with
  | empty =>
    rw [bigSep_empty, bigSep_empty]
    iintro ⟨-, -⟩
    imodintro
    iempintro
  | insert o s ho ih =>
    rw [sep_insert ho, sep_insert ho]
    iintro ⟨#HK, Ho, Hs⟩
    imod (close_one X K (k o) (g o) (h o) R (hR o)) $$ [Ho] with Hz
    · isplitr; · iexact HK
      iexact Ho
    imod ih $$ [Hs] with Hzs
    · isplitr; · iexact HK
      iexact Hs
    imodintro
    isplitl [Hz]; · iexact Hz
    iexact Hzs

/-- All of the exchange's cells close: the barrier past its round, those of the copies past theirs, the two of no copy where they were. -/
theorem close_cells (c : Dev nD) :
    iprop(known X K ∗ atPos ER (barCell c) 1 ∅ 0
        ∗ atPos ER (sendCell c 0) 0 ∅ 0 ∗ (bigSep others fun o => atPos ER (sendCell c o) 1 ∅ 0)
        ∗ atPos ER (recvCell c 0) 0 ∅ 0 ∗ (bigSep others fun s => atPos ER (recvCell c s) 1 ∅ 0))
      ⊢ (iprop(|={Set.univ}=> cellZeros c) : sProp 𝕄) := by
  iintro ⟨#HK, HB, HS0, HS, HR0, HR⟩
  imod (close_one X K (c, kB) (barCell c) (kc_B c) 1 (duties_later X _)) $$ [HB] with HB
  · isplitr; · iexact HK
    iexact HB
  imod (close_one X K (c, kS 0) (sendCell c 0) (kc_S c 0) 0 (fun r _ => duties_send0 X c r)) $$ [HS0] with HS0
  · isplitr; · iexact HK
    iexact HS0
  imod (close_one X K (c, kR 0) (recvCell c 0) (kc_R c 0) 0 (fun r _ => duties_recv0 X c r)) $$ [HR0] with HR0
  · isplitr; · iexact HK
    iexact HR0
  imod (close_all X K others (sendCell c) (fun o => (c, kS o)) (kc_S c) 1 (fun o => duties_later X _)) $$ [HS] with HS
  · isplitr; · iexact HK
    iexact HS
  imod (close_all X K others (recvCell c) (fun s => (c, kR s)) (kc_R c) 1 (fun o => duties_later X _)) $$ [HR] with HR
  · isplitr; · iexact HK
    iexact HR
  imodintro
  unfold cellZeros
  rw [cells_split, kc_B]
  simp only [kc_S, kc_R]
  rw [first_others, first_others]
  isplitl [HB]; · iexact HB
  isplitl [HS0 HS]
  · isplitl [HS0]; · iexact HS0
    iexact HS
  isplitl [HR0]; · iexact HR0
  iexact HR

/-! ## The side facts of the lists -/

/-- The printed signals go to devices 0, 1, …, 15 in turn, each guarded by not being to the device itself. -/
theorem sigs_facts (c : Dev nD) : List.Forall₂ (fun (e : Sig) (j : Dev nD) => e.dev = j.val ∧ (e.cond c = 1#1 ↔ j ≠ c)) sigList sigDevs := by
  repeat' first | exact List.Forall₂.nil | refine List.Forall₂.cons ?_ ?_
  all_goals
    revert c
    decide +kernel

/-- The printed sends go to the devices at their offsets, and no offset is zero. -/
theorem sends_facts (c : Dev nD) : ∀ e ∈ sendList, e.o ≠ 0 ∧ e.dev c = (c + e.o).val := by
  have h : sendList.Forall fun e => ∀ c : Dev nD, e.o ≠ 0 ∧ e.dev c = (c + e.o).val := by
    simp only [List.forall_cons, List.Forall, and_true]
    repeat' apply And.intro
    all_goals decide +kernel
  intro e he
  exact List.forall_iff_forall_mem.mp h e he c

/-- The sends are at every offset but zero, once each. -/
theorem sendOffs_set : (sendList.map Send.o).toFinset = others := by decide
/-- The accumulating rounds after the first are of every slot but zero. -/
theorem slotList_set : slotList.toFinset = others := by decide
/-- The closing waits are for every offset but zero. -/
theorem offList_set : offList.toFinset = others := by decide
/-- The signals are to every device. -/
theorem sigDevs_set : sigDevs.toFinset = (Finset.univ : Finset (Dev nD)) := by decide

/-- The weights of the slots after the first three. -/
theorem late_set : ([2, 14, 3, 13, 4, 12, 5, 11, 6, 10, 7, 9, 8] : List (Fin 16)).toFinset = (others.erase 1).erase 15 := by decide

/-! ## The body -/

set_option maxHeartbeats 1000000 in
/-- The body on device `c`, from what the launch hands it to what it hands back. -/
theorem runs_program (c : Dev nD) (Q : PUnit → sProp 𝕄) :
    iprop(bodyIn X Wt K c ∗ (bodyOut X Wt c -∗ Q ⟨⟩)) ⊢ runs c program Q := by
  unfold program runs
  rw [wp_deviceId]
  show _ ⊢ runs c (signals c sigList _) Q
  unfold bodyIn toks places localZeros credits buffers
  rw [x_blocks, w_blocks, around c (fun j => xPts X c j), around c (fun j => wPts Wt c j), first_others (fun o => xPts X c (c + o)),
    first_others (fun o => wPts Wt c (c + o)), sep_take (s := others) (i := 1) (by decide) (Φ := fun o => wPts Wt c (c + o)),
    sep_take (s := others.erase 1) (i := 15) (by decide) (Φ := fun o => wPts Wt c (c + o)),
    cells_split, first_others (fun o => dutyTok ER (sendCell c o) 0 0), first_others (fun o => dutyTok ER (recvCell (c + o) (-o)) 0 0), kc_B]
  simp only [kc_S, kc_R]
  rw [first_others (fun o => atPos ER (sendCell c o) 0 ∅ 0), first_others (fun o => atPos ER (recvCell c o) 0 ∅ 0)]
  iintro ⟨⟨#HK, #Hlev, ⟨HtB, ⟨-, HtS⟩, -, HtR⟩, ⟨HaB, ⟨HaS0, HaS⟩, HaR0, HaR⟩, ⟨Hw0, Hw1, Hown⟩, ⟨HcB, HcR⟩,
    ⟨⟨%fs, Hslots⟩, ⟨%fb, Hbufs⟩, ⟨HW0, HW1, HW15, HW⟩, HX0, HX⟩, HO, ⟨%v, Ho⟩⟩, Hk⟩
  ihave Hslots := (slots_split (F := F) c) $$ [Hslots]
  · iexists fs; iexact Hslots
  ihave Hbufs := (bufs_split (F := F) c) $$ [Hbufs]
  · iexists fb; iexact Hbufs
  icases Hbufs with ⟨Hb0, Hb1⟩
  ihave Hsig := (sigRes_all (F := F) c) $$ [HtB Hslots]
  · isplitl [HtB]; · iexact HtB
    iexact Hslots
  icases Hsig with ⟨Hslot0, Hsig⟩
  -- the signals, and the wait for the others'
  iapply (runs_signals X K c sigList sigDevs (sigs_facts c) (by decide) (sendsOwe c sendOffs))
  isplitr; · iexact HK
  isplitl [HO]; · iexact HO
  isplitl [Hsig]; · rw [sigDevs_set]; iexact Hsig
  iintro HO
  iapply (runs_barrier X K c)
  isplitr; · iexact HK
  isplitr; · iexact Hlev
  isplitl [HO]; · iexact HO
  isplitl [HcB]; · iexact HcB
  isplitl [HaB]; · iexact HaB
  iintro ⟨HO, HaB, Hpay⟩
  -- the remote copies
  iapply (runs_sends X K c sendList (sends_facts c) (by decide))
  isplitr; · iexact HK
  isplitl [HO]; · iexact HO
  isplitl [HX Hpay HtS HtR]
  · rw [sendOffs_set]
    iapply (sendRes_all X c)
    isplitl [HX]; · iexact HX
    isplitl [Hpay]; · iexact Hpay
    isplitl [HtS]; · iexact HtS
    iexact HtR
  rw [sendOffs_set]
  iintro ⟨HO, HcS⟩
  -- the copy of the own block, the first two of the weights
  iapply (runs_startOwn X c)
  isplitl [HX0]; · rw [add_zero_dev]; iexact HX0
  isplitl [Hslot0]; · iexact Hslot0
  isplitl [Hown]; · iexact Hown
  iintro HX0
  iapply (runs_startW Wt c 0 0)
  isplitl [HW0]; · iexact HW0
  isplitl [Hb0 Hw0]
  · unfold bufFree
    isplitl [Hb0]; · iexact Hb0
    iexact Hw0
  iintro HF0
  iapply (runs_startW Wt c 1 1)
  isplitl [HW1]; · iexact HW1
  isplitl [Hb1 Hw1]
  · unfold bufFree
    isplitl [Hb1]; · iexact Hb1
    iexact Hw1
  iintro HF1
  -- the rounds
  iapply (runs_round0 X Wt c v)
  isplitl [HO]; · iexact HO
  isplitl [HF0]; · iexact HF0
  isplitl [HX0]; · iexact HX0
  isplitl [Ho]; · iexact Ho
  iintro ⟨HO, Hb0, Hs0, HW0, HX0, Hown, Ho⟩
  iapply (runs_startW Wt c 0 15)
  isplitl [HW15]; · iexact HW15
  isplitl [Hb0]; · iexact Hb0
  iintro HF0
  iapply (runs_rounds X Wt K c [2, 14, 3, 13, 4, 12, 5, 11, 6, 10, 7, 9, 8] 1 1 15 (by decide) (by decide) (termV X Wt c 0))
  isplitr; · iexact HK
  isplitl [HO]; · iexact HO
  isplitl [HF1]; · iexact HF1
  isplitl [HF0]; · iexact HF0
  isplitl [HW]; · rw [late_set]; iexact HW
  isplitl [HaR HcR]
  · rw [slotList_set]
    unfold recvRes
    rw [bigSep_sep']
    isplitl [HaR]; · iexact HaR
    iexact HcR
  isplitl [Ho]; · iexact Ho
  rw [slotList_set]
  unfold slotDone
  rw [bigSep_sep', bigSep_sep']
  iintro ⟨HO, ⟨%b, Hbufs⟩, ⟨Hs, HW, HaR⟩, Ho⟩
  iapply (runs_finish c)
  isplitl [Ho]; · iexact Ho
  iintro Ho
  -- the closing waits
  iapply (runs_waitSends X K c offList (by decide) (by decide))
  isplitr; · iexact HK
  isplitl [HO]; · iexact HO
  isplitl [HaS HcS]
  · rw [offList_set]
    unfold sentRes
    rw [bigSep_sep']
    isplitl [HaS]; · iexact HaS
    iexact HcS
  rw [offList_set]
  unfold sentDone
  rw [bigSep_sep']
  iintro ⟨HO, HaS, HX⟩
  -- the end
  unfold runs
  rw [wp_ret]
  imod (close_cells X K c) $$ [HaB HaS0 HaS HaR0 HaR] with Hz
  · isplitr; · iexact HK
    isplitl [HaB]; · iexact HaB
    isplitl [HaS0]; · iexact HaS0
    isplitl [HaS]; · iexact HaS
    isplitl [HaR0]; · iexact HaR0
    iexact HaR
  imodintro
  iapply Hk
  ihave Hbufs := (bufs_back (F := F) c b) $$ Hbufs
  icases Hbufs with ⟨Hbufs, Hw0, Hw1⟩
  unfold bodyOut localZeros buffers
  rw [x_blocks, w_blocks, around c (fun j => xPts X c j), around c (fun j => wPts Wt c j), first_others (fun o => xPts X c (c + o)),
    first_others (fun o => wPts Wt c (c + o))]
  isplitl [Hs0 Hs Hbufs HW0 HW HX0 HX]
  · isplitl [Hs0 Hs]
    · iapply (slots_join (F := F) c fs)
      rw [first_others]
      isplitl [Hs0]; · iapply (slotFull_any X c 0) $$ Hs0
      have h : (bigSep others (slotFull X c) : sProp 𝕄) ⊢ bigSep others (slotAny c) := bigSep_mono fun s _ => slotFull_any X c s
      iapply h $$ Hs
    isplitl [Hbufs]; · iapply (bufs_join (F := F) c fb) $$ Hbufs
    isplitl [HW0 HW]
    · isplitl [HW0]; · iexact HW0
      iexact HW
    isplitl [HX0]; · rw [add_zero_dev]; iexact HX0
    iexact HX
  isplitl [Hz]; · iexact Hz
  isplitl [Hw0 Hw1 Hown]
  · isplitl [Hw0]; · iexact Hw0
    isplitl [Hw1]; · iexact Hw1
    iexact Hown
  isplitl [HO]; · iexact HO
  unfold outV
  iexact Ho

end Cert.KernelIdeal.Proof

end
-- ==== Proof.Mint.lean ====
/-
  The launch: every device's cells and rights are made at once, the cells' invariants allocated, the rights dealt to the
  devices that spend them, and the launch's credit counted.
-/
module

public import proofs.«01_k».proof.Proof.Body
public import proofs.«01_k».proof.Proof.Gen.KernelIdeal.Launch

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : (c : Dev nD) → Buf (Elt F) ((c : Thread nD τ).loc cc0_stg0_0))

/-! ## The kernel's own semaphores -/

/-- The sixteen of the sends, the sixteen of the receives, and the three of the local copies. -/
def osem : Fin 16 ⊕ Fin 16 ⊕ Fin 3 → SemLoc sig
  | .inl o => .dma (sendS o)
  | .inr (.inl s) => .dma (recvS s)
  | .inr (.inr 0) => .dma (wS 0)
  | .inr (.inr 1) => .dma (wS 1)
  | .inr (.inr 2) => .dma ownS

set_option maxRecDepth 8000 in
theorem ownSemFacts : Pipeline.OwnSemFacts cfg0.spec osem := by decide +kernel

/-- The kernel's own semaphores are the send, the receive and the three local ones, at zero. -/
theorem ownSems_eq (c : Dev nD) : (Pipeline.ownSems0 (Ix := Unit) (Name := ℕ) (U := UU) (Lvl := ℕ) (Val := Elt F) (τ := τ) osem c : sProp 𝕄)
    = iprop((bigSep Finset.univ fun o => semVal (sendCell c o) 0) ∗ (bigSep Finset.univ fun s => semVal (recvCell c s) 0) ∗ localZeros c) := by
  unfold Pipeline.ownSems0
  rw [bigSep_univ_sum, bigSep_univ_sum, bigSep_univ_eq_bigSepL [(0 : Fin 3), 1, 2] (by decide) (by decide)]
  rfl

/-- The barrier's semaphore is the one the launch does not scope. -/
theorem runtimeSems_eq (c : Dev nD) : (unscopedSems0 c : sProp 𝕄) = semVal (barCell c) 0 := by
  unfold unscopedSems0; rw [bigSep_eq_bigSepL_of_eq [SemLoc.reg barS] (by decide +kernel) (by decide)]; rfl

/-- The semaphores the launch hands over, as the exchange's and the local copies'. -/
theorem sems_eq (c : Dev nD) :
    iprop(Pipeline.ownSems0 (Ix := Unit) (Name := ℕ) (U := UU) (Lvl := ℕ) (Val := Elt F) (τ := τ) osem c ∗ unscopedSems0 c)
      ⊢ (iprop(cellZeros c ∗ localZeros c) : sProp 𝕄) := by
  rw [ownSems_eq, runtimeSems_eq]
  unfold cellZeros
  rw [cells_split, kc_B]
  simp only [kc_S, kc_R]
  iintro ⟨⟨HS, HR, Hl⟩, HB⟩
  isplitr [Hl]
  · isplitl [HB]; · iexact HB
    isplitl [HS]; · iexact HS
    iexact HR
  iexact Hl

/-- And back. -/
theorem sems_back (c : Dev nD) : (iprop(cellZeros c ∗ localZeros c) : sProp 𝕄)
    ⊢ iprop(unscopedSems0 c ∗ Pipeline.ownSems0 (Ix := Unit) (Name := ℕ) (U := UU) (Lvl := ℕ) (Val := Elt F) (τ := τ) osem c) := by
  rw [ownSems_eq, runtimeSems_eq]
  unfold cellZeros
  rw [cells_split, kc_B]
  simp only [kc_S, kc_R]
  iintro ⟨⟨HB, HS, HR⟩, Hl⟩
  isplitl [HB]; · iexact HB
  isplitl [HS]; · iexact HS
  isplitl [HR]; · iexact HR
  iexact Hl

/-! ## The cells and the rights -/

/-- The cells of a device are distinct; -/
theorem csem_role : ∀ k k' : Fin 33, csem k = csem k' → k = k' := by decide +kernel

/-- and those of all devices. -/
theorem kcell_injective : Function.Injective (kcell : Dev nD × Fin 33 → GSem nD τ sig) := by
  rintro ⟨c, k⟩ ⟨c', k'⟩ h
  have hc : c = c' := congrArg (fun g : GSem nD τ sig => g.1.1) h
  have hk : k = k' := csem_role k k' (congrArg Prod.snd h)
  rw [hc, hk]

/-- All cells of the exchange. -/
def theCells : Finset (GSem nD τ sig) := Finset.univ.map ⟨kcell, kcell_injective⟩

/-- The rights, by device and kind: to a unit of its barrier for each device, to its send and to its receive cells. -/
def tokOf : Dev nD × (Dev nD ⊕ Fin 16 ⊕ Fin 16) → GSem nD τ sig × ℕ × Dev nD
  | (c, .inl d) => (barCell c, 0, d)
  | (c, .inr (.inl o)) => (sendCell c o, 0, 0)
  | (c, .inr (.inr s)) => (recvCell c s, 0, 0)

/-- The tokens are distinct. -/
theorem tokOf_injective : Function.Injective tokOf := by
  rintro ⟨c, x⟩ ⟨c', x'⟩ h
  have hc : c = c' := by
    have := congrArg (fun g : GSem nD τ sig × ℕ × Dev nD => g.1.1.1) h
    rcases x with d | o | s <;> rcases x' with d' | o' | s' <;> exact this
  have hr := congrArg (fun g : GSem nD τ sig × ℕ × Dev nD => role g.1.2) h
  have hd := congrArg (fun g : GSem nD τ sig × ℕ × Dev nD => g.2.2) h
  subst hc
  rcases x with d | o | s <;> rcases x' with d' | o' | s' <;> simp only [tokOf, role_bar, role_send, role_recv, reduceCtorEq, Role.send.injEq, Role.recv.injEq] at hr hd
  · rw [hd]
  · rw [hr]
  · rw [hr]

/-- All tokens. -/
def theToks : Finset (GSem nD τ sig × ℕ × Dev nD) := Finset.univ.map ⟨tokOf, tokOf_injective⟩

/-- The launch's element: the pipeline's rounds, the exchange's, and no counter yet. -/
def u₀ : UU := (initOf (Pipeline.cells cfgs cellOf_inj) (Pipeline.launchToks cfgs cellOf_inj), (initOf theCells theToks, 1))

/-- A device's rights as made: those of its own cells. -/
def ownToks (c : Dev nD) : sProp 𝕄 :=
  iprop((bigSep Finset.univ fun d : Dev nD => dutyTok ER (barCell c) 0 d)
    ∗ (bigSep Finset.univ fun o : Fin 16 => dutyTok ER (sendCell c o) 0 0)
    ∗ (bigSep Finset.univ fun s : Fin 16 => dutyTok ER (recvCell c s) 0 0))

/-- What a device is dealt at first; -/
def G (c : Dev nD) : sProp 𝕄 :=
  iprop((bigSep Finset.univ fun k => roundState ER (Rd X) (kcell (c, k)) 0) ∗ places c
    ∗ (bigSep Finset.univ fun k => reached ER (kcell (c, k)) 0) ∗ ownToks c)

/-- and at last: what all know, its places, the rights it spends, the local copies' semaphores. -/
def G' (c : Dev nD) : sProp 𝕄 := iprop(∃ K, known X K ∗ toks c ∗ places c ∗ localZeros c)

/-- What was made for the exchange gives each device its cells and tokens. -/
theorem fund : BI.own (ER (initOf theCells theToks)) ⊢ (|==> bigSep Finset.univ (G X) : sProp 𝕄) := by
  have hX (Φ : GSem nD τ sig → sProp 𝕄) :
      bigSep theCells Φ = bigSep Finset.univ fun c : Dev nD => bigSep Finset.univ fun k : Fin 33 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    refine bigSep_congr fun c _ => ?_
    unfold ownToks
    rw [bigSep_univ_sum, bigSep_univ_sum]
    rfl
  iintro H
  imod (Rounds.fund ER (Rd X) theCells theToks) $$ H with ⟨Hst, Hr, Hat, Htok⟩
  imodintro
  ihave Hst := (Entails.of_eq (hX fun g => roundState ER (Rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places
  rw [bigSep_sep', bigSep_sep', bigSep_sep']
  isplitl [Hst]; · iexact Hst
  isplitl [Hat]; · iexact Hat
  isplitl [Hr]; · iexact Hr
  iexact Htok

/-! ## The global step -/

/-- One device's cells: their invariants are allocated. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => reached ER (kcell (c, k)) 0) ∗ (places c ∗ localZeros c) ∗ ownToks c) := by
  unfold G
  iintro ⟨Hos, Hus, Hst, Hat, Hr, Htok⟩
  ihave Hv := (sems_eq (F := F) c) $$ [Hos Hus]
  · isplitl [Hos] <;> iassumption
  icases Hv with ⟨Hv, Hl⟩
  unfold cellZeros
  imod (show iprop((bigSep Finset.univ fun k : Fin 33 => semVal (kcell (c, k)) 0) ∗ bigSep Finset.univ fun k : Fin 33 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat Hl]
  · isplitl [Hat] <;> iassumption
  iexact Htok

/-- Going round in pairs: the slot of the device `o` places on that this one fills. -/
def across : Dev nD × Fin 16 ≃ Dev nD × Fin 16 where
  toFun x := (x.1 + x.2, -x.2)
  invFun x := (x.1 + x.2, -x.2)
  left_inv := by decide +kernel
  right_inv := by decide +kernel

/-- The rights, dealt to those who spend them: a unit of a barrier to the device that signals, a receive cell's to the
    device that fills the slot. -/
theorem toks_dealt : (bigSep Finset.univ fun c : Dev nD => (ownToks c : sProp 𝕄)) ⊢ bigSep Finset.univ fun c : Dev nD => toks c := by
  unfold ownToks toks
  rw [bigSep_sep', bigSep_sep', bigSep_sep', bigSep_sep', bigSep_univ_comm,
    ← bigSep_univ_prod (fun x : Dev nD × Fin 16 => (dutyTok ER (recvCell x.1 x.2) 0 0 : sProp 𝕄)), bigSep_univ_equiv across,
    bigSep_univ_prod]
  exact BI.Entails.refl _

/-- Knowledge that can be copied goes to every member of a family. -/
theorem with_known {R : sProp 𝕄} [BI.Persistent R] {S : Finset (Dev nD)} {Φ Ψ : Dev nD → sProp 𝕄}
    (h : ∀ c ∈ S, iprop(R ∗ Φ c) ⊢ Ψ c) : iprop(R ∗ bigSep S Φ) ⊢ bigSep S Ψ :=
  (sep_mono_left (BI.bigSep_of_persistent S R)).trans (by rw [← bigSep_sep']; exact bigSep_mono h)

/-- The cells and rights of all the devices, sorted by kind, are those of each device in turn. -/
theorem regroup :
    (bigSep Finset.univ fun c : Dev nD => iprop((bigSep Finset.univ fun k => iprop(∃ κ : ℕ, cellInv ER (Rd X) κ (kcell (c, k))))
          ∗ (bigSep Finset.univ fun k => reached ER (kcell (c, k)) 0) ∗ (places c ∗ localZeros c) ∗ ownToks c) : sProp 𝕄)
      ⊢ bigSep Finset.univ (G' X) := by
  rw [bigSep_sep', bigSep_sep', bigSep_sep', ← bigSep_univ_prod (fun ck : Dev nD × Fin 33 => iprop(∃ κ : ℕ, cellInv ER (Rd X) κ (kcell ck))),
    ← bigSep_univ_prod (fun ck : Dev nD × Fin 33 => (reached ER (kcell ck) 0 : sProp 𝕄))]
  iintro ⟨HI, #HR, Hpl, Htok⟩
  ihave HK := (BI.bigSep_exists_pi Finset.univ (fun (ck : Dev nD × Fin 33) (κ : ℕ) => (cellInv ER (Rd X) κ (kcell ck) : sProp 𝕄))) $$ HI
  icases HK with ⟨%K, #HI⟩
  ihave Htok := (toks_dealt (F := F)) $$ Htok
  iapply (with_known (R := known X K) (Φ := fun c => iprop(toks c ∗ places c ∗ localZeros c)) (Ψ := G' X) fun c _ => by
    unfold G'
    iintro ⟨#HK, Ht, Hp, Hl⟩
    iexists K
    isplitr; · iexact HK
    isplitl [Ht]; · iexact Ht
    isplitl [Hp] <;> iassumption)
  isplitr
  · unfold known
    isplitr; · iexact HI
    iexact HR
  iapply (Entails.of_eq (bigSep_sep' Finset.univ (fun c : Dev nD => (toks c : sProp 𝕄)) fun c => iprop(places c ∗ localZeros c)).symm)
  isplitl [Htok] <;> iassumption

/-- From every device's semaphores at zero and its cells, the invariants are allocated and the rights dealt. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch's credit -/

/-- A receive cell is not the barrier. -/
theorem recv_ne_bar (s : Fin 16) : (SemLoc.dma (recvS s) : SemLoc sig) ≠ .reg barS := fun h => by cases h

/-- Two devices' barrier cells are one only if the devices are; -/
theorem bar_eq {a b : Dev nD} : barCell a = barCell b ↔ a = b :=
  ⟨fun h => congrArg (fun g : GSem nD τ sig => g.1.1) h, fun h => h ▸ rfl⟩
/-- so of receive cells and their slots. -/
theorem recv_eq {a b : Dev nD} {s t : Fin 16} : recvCell a s = recvCell b t ↔ a = b ∧ s = t :=
  ⟨fun h => ⟨congrArg (fun g : GSem nD τ sig => g.1.1) h, by
    have := congrArg (fun g : GSem nD τ sig => role g.2) h
    simp only [role_recv, Role.recv.injEq] at this
    exact this⟩, fun h => by rw [h.1, h.2]⟩

/-- What the signal of `d` to `j` owes `c`'s barrier; -/
theorem sigOwe_bar (d j c : Dev nD) : sigOwe d j (barCell c) () = if j = d then 0 else if c = j then 1 else 0 := by
  unfold sigOwe
  by_cases h : j = d
  · rw [if_pos h, if_pos h]; rfl
  · rw [if_neg h, if_neg h, tallyAt_apply]
    simp only [bar_eq, and_true]
/-- it owes no receive cell. -/
theorem sigOwe_recv (d j c : Dev nD) (s : Fin 16) : sigOwe d j (recvCell c s) () = 0 := by
  unfold sigOwe
  by_cases h : j = d
  · rw [if_pos h]; rfl
  · rw [if_neg h]; exact tallyAt_apply .. |>.trans (if_neg fun h => recv_ne_bar s (congrArg Prod.snd h.1))
/-- A send owes no barrier; -/
theorem sendOwe_bar (d o c : Dev nD) : sendOwe d o (barCell c) () = 0 := by
  unfold sendOwe; exact tallyAt_apply .. |>.trans (if_neg fun h => recv_ne_bar _ (congrArg Prod.snd h.1).symm)
/-- what the send of `d` at offset `o` owes the receive cell `s` of `c`. -/
theorem sendOwe_recv (d o c : Dev nD) (s : Fin 16) : sendOwe d o (recvCell c s) () = N * if c = d + o ∧ s = -o then 1 else 0 := by
  unfold sendOwe
  rw [tallyAt_apply]
  simp only [recv_eq, and_true, mul_ite, mul_one, mul_zero]

/-- All the units owed to a barrier are fifteen; -/
theorem owed_bar (c : Dev nD) : ∑ d : Dev nD, O₀ d (barCell c) () = 15 := by
  have h : ∀ d, O₀ d (barCell c) () = (sigDevs.map fun j => if j = d then 0 else if c = j then 1 else 0).sum + (sendOffs.map fun _ => 0).sum := by
    intro d
    unfold O₀ sigsOwe sendsOwe
    rw [Pi.add_apply, Finsupp.add_apply, sum_at, sum_at]
    simp only [sigOwe_bar, sendOwe_bar]
  rw [Finset.sum_congr rfl fun d _ => h d]
  clear h
  revert c
  decide +kernel

/-- all that is owed to a receive cell other than the first, one copy's. -/
theorem owed_recv (c : Dev nD) (s : Fin 16) (hs : s ≠ 0) : ∑ d : Dev nD, O₀ d (recvCell c s) () = N := by
  have h : ∀ d, O₀ d (recvCell c s) () = N * (sendOffs.map fun o => if c = d + o ∧ s = -o then 1 else 0).sum := by
    intro d
    unfold O₀ sigsOwe sendsOwe
    rw [Pi.add_apply, Finsupp.add_apply, sum_at, sum_at]
    simp only [sigOwe_recv, sendOwe_recv]
    rw [List.sum_map_mul_left]
    simp
  rw [Finset.sum_congr rfl fun d _ => h d, ← Finset.mul_sum]
  have h1 : ∑ d : Dev nD, (sendOffs.map fun o => if c = d + o ∧ s = -o then 1 else 0).sum = 1 := by
    clear h
    revert c s
    decide +kernel
  rw [h1, mul_one]

/-- What all devices owe a cell together is its credit at the launch. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The launch's credit covers the barrier's fifteen units and each slot's arrival. -/
theorem creds (c : Dev nD) : (Pipeline.launchCred O₀ c : sProp 𝕄) ⊢ credits c := by
  unfold Pipeline.launchCred credits
  rw [bigSep_univ_at _ (SemLoc.reg barS), launch_at (barCell c) 15 (owed_bar c)]
  refine sep_mono_right ?_
  have hsub : (others.map ⟨fun s => (SemLoc.dma (recvS s) : SemLoc sig), fun s t h => (recv_eq.mp (congrArg (Prod.mk (c : Thread nD τ)) h)).2⟩)
      ⊆ Finset.univ.erase (SemLoc.reg barS) := by
    intro x hx
    obtain ⟨s, -, rfl⟩ := Finset.mem_map.mp hx
    exact Finset.mem_erase.mpr ⟨recv_ne_bar s, Finset.mem_univ _⟩
  refine (bigSep_subset hsub).trans ?_
  rw [bigSep_map]
  refine bigSep_mono fun s hs => ?_
  rw [← launch_at (recvCell c s) N (owed_recv c s (Finset.ne_of_mem_erase hs))]
  exact BI.Entails.refl _

end Cert.KernelIdeal.Proof

end
-- ==== Proof.Run.lean ====
/-
  The run: from any memory with every semaphore at zero, the sixteen kernels end with the arguments as they were, every
  semaphore at zero, and each device's result at the activation of its accumulated products.
-/
module

public import proofs.«01_k».proof.Proof.BodyEq
public import proofs.«01_k».proof.Proof.Mint
public import proofs.«01_k».proof.Proof.Gen.KernelIdeal.Points
public import Idealize.ShloMosaic.Lib.Pipeline.CollectiveSegs
public import Idealize.ShloMosaic.Lib.Quiescent

@[expose] public section

noncomputable section

namespace Cert.KernelIdeal.Proof

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A device's columns of `x`, as they are staged; -/
def xstg (c : Dev nD) : Buf (Elt F) ((c : Thread nD τ).loc cc0_stg0_0) :=
  (win0_0.blk (0 : Fin 1)).view.read (Elt F) (m ((c : Thread nD τ).loc main_arg0))
/-- its weights. -/
def wArr (c : Dev nD) : Buf (Elt F) ((c : Thread nD τ).loc main_arg1) := m ((c : Thread nD τ).loc main_arg1)

/-- The whole result of a device. -/
def outAt (c : Dev nD) : Buf (Elt F) ((c : Thread nD τ).loc cc0_stg1_0) := outV (xstg m) (wArr m) c

/-! ## The pipeline's assertions -/

/-- What a device starts with besides its buffers. -/
def start (c : Dev nD) : sProp 𝕄 := iprop(G' (xstg m) c ∗ credits c ∗ levAts L lv ∗ wWhole (wArr m) c)

/-- The assertion before the one grid point; -/
def Φ₀ (c : Dev nD) : sProp 𝕄 := iprop(start m c ∗ slotsWhole c ∗ bufsWhole c)
/-- and after it. -/
def Φ₁ (c : Dev nD) : sProp 𝕄 := iprop((slotsWhole c ∗ bufsWhole c) ∗ wWhole (wArr m) c ∗ cellZeros c ∗ localZeros c)

/-- What the pipeline knows of the windows: the arrays, what the body leaves staged, the two assertions, and what is owed. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer at `v`. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

/-- Owning a whole staging buffer is holding its contents. -/
theorem stg_eq (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

/-! ## The body's obligation -/

/-- What the body is run from; -/
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

/-- and what it must leave. -/
def bodyPost (c : Dev nD) : sProp 𝕄 :=
  iprop(Φ₁ m c ∗ (dats m 0 c).owesAt () t0_0.succ ∗ stg c cc0_stg0_0 (xstg m c) ∗ stg c cc0_stg1_0 (outAt m c))

/-- The program runs from the one to the other. -/
theorem sound_body (c : Dev nD) : bodyPre m c ⊢ runs c program (fun _ => bodyPost m c) := by
  unfold bodyPre Φ₀ start G'
  iintro ⟨⟨⟨⟨%K, HK, Ht, Hp, Hl⟩, Hc, Hlev, Hw⟩, Hs, Hb⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  iapply (runs_program (xstg m) (wArr m) K c)
  isplitl [HK Ht Hp Hl Hc Hlev Hw Hs Hb HO Hx Hout]
  · unfold bodyIn buffers
    isplitl [HK]; · iexact HK
    isplitl [Hlev]; · iexact Hlev
    isplitl [Ht]; · iexact Ht
    isplitl [Hp]; · iexact Hp
    isplitl [Hl]; · iexact Hl
    isplitl [Hc]; · iexact Hc
    isplitl [Hs Hb Hw Hx]
    · isplitl [Hs]; · iexact Hs
      isplitl [Hb]; · iexact Hb
      isplitl [Hw]; · iexact Hw
      iexact Hx
    isplitl [HO]
    · iexists W; iexact HO
    iexists g1
    unfold oPts
    iexact Hout
  unfold bodyOut buffers
  iintro ⟨⟨Hs, Hb, Hw, Hx⟩, Hz, Hl, ⟨%W', HO⟩, Ho⟩
  unfold bodyPost Φ₁ Dat.owesAt Pipeline.owesWithin
  rw [show (dats m 0 c).owed t0_0.succ = 0 from rfl]
  isplitl [Hs Hb Hw Hz Hl]
  · isplitl [Hs Hb]
    · isplitl [Hs]; · iexact Hs
      iexact Hb
    isplitl [Hw]; · iexact Hw
    isplitl [Hz]; · iexact Hz
    iexact Hl
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  unfold oPts
  iexact Ho

set_option maxRecDepth 4000 in
/-- The pipeline's obligation of the body on device `c`. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [stg_eq]
  show bodyPre m c ⊢ runs c
    (cc0_body (F := F) xM (Memref.isWhole_whole _) wM (Memref.isWhole_whole _) oM (Memref.isWhole_whole _) rM (Memref.isWhole_whole _)
      bM (Memref.isWhole_whole _) cc0_scratch2 cc0_scratch3 cc0_scratch4 cc0_scratch5) (fun _ => bodyPost m c)
  rw [body_eq_program]
  exact sound_body m c

/-! ## The launch's side conditions -/

/-- Every window is held whole. -/
theorem share_eq (c : Dev nD) (w : Fin cfg0.W) : (dats m 0 c).share w = fullShare := by unfold Dat.share; split <;> rfl

/-- What the launch hands over is the device's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m) c)
      ⊢ |={Set.univ}=> iprop(start m c ∗ emp) := by
  rw [Pipeline.unscopedRestP_none]
  rw [show Pipeline.unscopedRest (Ix := Unit) (Name := ℕ) (U := UU) (Lvl := ℕ) cfg0.spec c (fun b => m ((c : Thread nD τ).loc b)) = _ from
    unscopedRest0_eq c (fun b => m ((c : Thread nD τ).loc b))]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  iempintro

/-- With the scratch buffers it is the assertion before the grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest (Ix := Unit) (Name := ℕ) (U := UU) (Lvl := ℕ) (Val := Elt F) cfg0.spec c = _ from scopedRest0_eq c]
  unfold Φ₀
  iintro ⟨Hs, -, Hr⟩
  isplitl [Hs]; · iexact Hs
  iexact Hr

/-- What is left unscoped at the end: the weights, and the barrier at zero. -/
def endY (c : Dev nD) : sProp 𝕄 := iprop(wWhole (wArr m) c ∗ unscopedSems0 c)

/-- The assertion after the grid point gives back the weights, every semaphore at zero and the scratch buffers. -/
theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl,
    show Pipeline.scopedRest (Ix := Unit) (Name := ℕ) (U := UU) (Lvl := ℕ) (Val := Elt F) cfg0.spec c = _ from scopedRest0_eq c]
  unfold Φ₁ endY
  iintro ⟨Hr, Hw, Hz, Hl⟩
  ihave Hz := (sems_back (F := F) c) $$ [Hz Hl]
  · isplitl [Hz] <;> iassumption
  icases Hz with ⟨Hu, Ho⟩
  isplitl [Hw Hu]
  · isplitl [Hw] <;> iassumption
  isplitl [Ho]; · iexact Ho
  iexact Hr

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-- The weights read at the end are the ones held. -/
theorem end_read (c : Dev nD) (s' : Phys nD τ sig (Elt F)) :
    iprop(endY m c ∗ emp ∗ SI s') ⊢ (iprop(|={Set.univ}=> iprop(⌜s'.mem.mem ((c : Thread nD τ).loc main_arg1) = m ((c : Thread nD τ).loc main_arg1)
      ∧ ∀ sm : SemLoc sig, sm.isScoped .tc = false → s'.mem.sem ((c.tc : Thread nD τ), sm) = 0⌝ ∗ SI s')) : sProp 𝕄) := by
  unfold endY
  iintro ⟨⟨Hw, Hu⟩, -, HSI⟩
  ihave %hw := (SI_pointsTo_agree (st := s') (ℓ := (c : Thread nD τ).loc main_arg1) (I := Finset.univ) (q := fullShare) (f := wArr m c)) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨funext fun i => hw i (Finset.mem_univ i), hs⟩
  iexact HSI

/-! ## The run -/

/-- A window's array after the run. -/
def finalA (c : Dev nD) (w : Fin cfg0.W) : Buf (Elt F) ((cfg0.win w).arr.view.loc (c : Thread nD τ)) := (dats m 0 c).arrAt w cfg0.N

/-- What the run establishes. -/
def Ends (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg1) = m ((c : Thread nD τ).loc main_arg1)) ∧ r.2.sem = fun _ => 0

set_option maxRecDepth 8000 in
/-- From any memory with zero semaphores, every run of the sixteen kernels ends, with the windows' arrays at `finalA`, the
    weights as they were and every semaphore at zero. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xstg m)) (G' := G' (xstg m)) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show BI.own (((Emb.inl : Emb UB (UB × Counters)).trans (embR : Emb (UB × Counters) 𝕄)) (initOf theCells theToks))
          ⊢ iprop(|==> bigSep Finset.univ (G (xstg m))) from fund (xstg m)) $$ HX with HG
      imodintro
      isplitl [HP] <;> iassumption)
    (hglob := glob (xstg m))
    (hA := fun _ _ => rfl) (hpf := fun _ k => k.elim0)
    (X := start m) (Y := endY m) (Z := fun _ => iprop(emp))
    (hX := start_intro m ρ) (hin := phi0_intro m) (hout := phi1_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := end_read m)
    (hQ := fun _ h hs => ⟨fun c => ⟨fun w => (h c).1 w, (h c).2.2.1⟩, sem_eq_zero hs fun c => (h c).2.2.2⟩)

/-- The columns of `x` are as they were. -/
theorem finalA_x (c : Dev nD) : finalA m c (0 : Fin 2) = m ((c : Thread nD τ).loc main_arg0) :=
  (dats (F := F) m 0 c).arrAt_in (0 : Fin 2) rfl _

/-- The arguments are unchanged and the semaphores at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (run_main m ρ).mono fun r h => ⟨fun c => ⟨((h.1 c).1 (0 : Fin 2)).trans (finalA_x m c), (h.1 c).2⟩, h.2⟩

end Cert.KernelIdeal.Proof

end
-- ==== Proof.Value.lean ====
/-
  The value: over the extended reals, what device `c` ends with is row block `c` of the activation of the whole product.

  Slot `s` of device `c` contributes the product of row block `c` of device `c + s`'s columns of `x` with row block `c + s`
  of the weights, which is the part of the whole contraction over columns `512 (c + s) … 512 (c + s) + 511`. The slots' parts
  together are the whole contraction. The two programs' activations differ in how a cube is associated.
-/
module

public import proofs.«01_k».proof.Proof.Run
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Pointwise.Sums

@[expose] public section

noncomputable section

namespace Cert.KernelIdeal.Proof

open Cert.KernelIdeal.Gen
open Idealize.ShloMosaic hiding ix2 eq_ix2
open Idealize.ShloMosaic.TcCoe
open Idealize.ShloMosaic.ValueIdx
open Idealize.SL.Sem
open scoped BigOperators

/-- Position `r` of block `j`, of the sixteen blocks of 512. -/
def row (j : Dev nD) (r : Fin 512) : Fin 8192 := ⟨j.val * 512 + r.val, by have h : j.val < 16 := j.isLt; have := r.isLt; omega⟩

/-! ## What the windows hold -/

section Windows
variable {F : FTy → Type} [FloatOps F] (m : (ℓ : Loc nD τ sig) → Buf (Elt F) ℓ) (ρ : Dev nD → PrngReg)

/-- A window over a whole array reads it. -/
theorem read_xWin (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
/-- So does the window over the result. -/
theorem read_outWin (f : (main_v1 : Ref sig .tc).ty.Contents (Elt F)) : (win0_1.blk (0 : Fin 1)).view.read (Elt F) f = f :=
  Memref.read_access_unit_zero (Elt F) main_v1 (funext fun a => by fin_cases a <;> decide) (fun a => by fin_cases a <;> decide) f

/-- The result array ends at what the body left. -/
theorem finalA_out (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (read_outWin _).symm.trans h

/-- Device `c`'s row block `j` of its columns of `x`, element by element; -/
theorem blkVal_apply (X : (c : Dev nD) → Buf (Elt F) ((c : Thread nD τ).loc cc0_stg0_0)) (c j : Dev nD) (r k : Fin 512) :
    blkVal X c j (ix2 r k) = X c (ix2 (n0 := 8192) (n1 := 512) (row j r) k) := by
  show X c ((xBlk j).view.emb _) = X c _
  refine congrArg (X c) (funext fun a => Fin.ext ?_)
  match a with
  | ⟨0, _⟩ => show 512 * j.val + 1 * r.val = j.val * 512 + r.val; omega
  | ⟨1, _⟩ => show 0 + 1 * k.val = k.val; omega
/-- and its row block `j` of the weights. -/
theorem wVal_apply (Wt : (c : Dev nD) → Buf (Elt F) ((c : Thread nD τ).loc main_arg1)) (c j : Dev nD) (k : Fin 512) (l : Fin 4096) :
    wVal Wt c j (ix2 k l) = Wt c (ix2 (n0 := 8192) (n1 := 4096) (row j k) l) := by
  show Wt c ((wBlk j).view.emb _) = Wt c _
  refine congrArg (Wt c) (funext fun a => Fin.ext ?_)
  match a with
  | ⟨0, _⟩ => show 512 * j.val + 1 * k.val = j.val * 512 + k.val; omega
  | ⟨1, _⟩ => show 0 + 1 * l.val = l.val; omega

end Windows

/-! ## The reference -/

/-- The whole product. -/
abbrev refDot (A : FVec Ideal Cert.ReferenceIdeal.S8192x8192 .f32) (B : FVec Ideal Cert.ReferenceIdeal.S8192x4096 .f32) :
    FVec Ideal Cert.ReferenceIdeal.S8192x4096 .f32 :=
  Host.dotGeneral Cert.ReferenceIdeal.dot_S8192x8192_S8192x4096_S8192x4096_1_0_0_1_n_n none A B

/-- A constant spread over the result's shape. -/
abbrev refConst (w : BitVec 32) : FVec Ideal Cert.ReferenceIdeal.S8192x4096 .f32 :=
  broadcastInDim Cert.ReferenceIdeal.S8192x4096 ![] Cert.ReferenceIdeal.Facts₀.bcast_S_S8192x4096 (constant (F := Ideal) Cert.ReferenceIdeal.S_ .f32 w)

/-- The reference's result of its two arguments. -/
abbrev refOut (A : FVec Ideal Cert.ReferenceIdeal.S8192x8192 .f32) (B : FVec Ideal Cert.ReferenceIdeal.S8192x4096 .f32) :
    FVec Ideal Cert.ReferenceIdeal.S8192x4096 .f32 :=
  mulf (mulf (refConst 0x3F000000#32) (refDot A B)) (addf (refConst 0x3F800000#32) (Host.tanh (mulf (refConst 0x3F4C422A#32)
    (addf (refDot A B) (mulf (refConst 0x3D372713#32) (mulf (mulf (refDot A B) (refDot A B)) (refDot A B)))))))

/-- The activation of one element, its cube as the reference associates it. -/
def act (y : Ideal .f32) : Ideal .f32 :=
  FloatOps.mulf (FloatOps.mulf (FloatOps.ofBits .f32 0x3F000000#32) y)
    (FloatOps.addf (FloatOps.ofBits .f32 0x3F800000#32) (FloatOps.tanh (FloatOps.mulf (FloatOps.ofBits .f32 0x3F4C422A#32)
      (FloatOps.addf y (FloatOps.mulf (FloatOps.ofBits .f32 0x3D372713#32) (FloatOps.mulf (FloatOps.mulf y y) y))))))

/-- An element of the whole product is the contraction. -/
theorem refDot_apply (A : FVec Ideal Cert.ReferenceIdeal.S8192x8192 .f32) (B : FVec Ideal Cert.ReferenceIdeal.S8192x4096 .f32) (r : Fin 8192) (l : Fin 4096) :
    refDot A B (ix2 r l) = ∑ k : Fin 8192, (A (ix2 r k) : EReal) * (B (ix2 k l) : EReal) :=
  StackMember.dotGeneral_plain_apply (m := 8192) (n := 4096) (k := 8192) none A B r l

/-- An element of the reference's result is the activation of that of the product. -/
theorem refOut_apply (A : FVec Ideal Cert.ReferenceIdeal.S8192x8192 .f32) (B : FVec Ideal Cert.ReferenceIdeal.S8192x4096 .f32) (i : Cert.ReferenceIdeal.S8192x4096.Idx) :
    refOut A B i = act (refDot A B i) := rfl

/-! ## The kernel -/

/-- The kernel's activation, its cube associated from the left, is the same. -/
theorem act_kernel (y : Ideal .f32) :
    (FloatOps.mulf (FloatOps.mulf (FloatOps.ofBits .f32 0x3F000000#32) y)
      (FloatOps.addf (FloatOps.ofBits .f32 0x3F800000#32) (FloatOps.tanh (FloatOps.mulf (FloatOps.ofBits .f32 0x3F4C422A#32)
        (FloatOps.addf y (FloatOps.mulf (FloatOps.mulf (FloatOps.mulf (FloatOps.ofBits .f32 0x3D372713#32) y) y) y))))) : Ideal .f32) = act y := by
  have h : ∀ a : EReal, ((a * y) * y) * y = a * ((y * y) * y) := fun a => by
    rw [mul_assoc, mul_assoc, mul_assoc]
  unfold act
  rw [show (FloatOps.mulf (FloatOps.mulf (FloatOps.mulf (FloatOps.ofBits .f32 0x3D372713#32) y) y) y : Ideal .f32)
    = FloatOps.mulf (FloatOps.ofBits .f32 0x3D372713#32) (FloatOps.mulf (FloatOps.mulf y y) y) from h _]

/-- An element of the kernel's activation. -/
theorem geluOf_apply (o : FVec Ideal S512x4096 .f32) (i : S512x4096.Idx) : geluOf o i = act (o i) := by
  rw [← act_kernel]
  unfold geluOf k0_pay22
  rw [show shapeCast S512x4096 o shapeCasts_S512x4096_S512x4096 = o from funext fun i => congrArg o (Shape.reshapeEquiv_self _ i)]
  rfl

variable (X : (c : Dev nD) → Buf (Elt Ideal) ((c : Thread nD τ).loc cc0_stg0_0))
  (Wt : (c : Dev nD) → Buf (Elt Ideal) ((c : Thread nD τ).loc main_arg1))

/-- The entries of a device's columns of `x` and of its weights, as extended reals. -/
abbrev xEnt (j : Dev nD) : S8192x512.Idx → EReal := X j
abbrev wEnt (c : Dev nD) : S8192x4096.Idx → EReal := Wt c

/-- An element of a product of blocks is the contraction over the block. -/
theorem prodV_apply (A : S512x512.Idx → Elt Ideal .f32) (B : S512x4096.Idx → Elt Ideal .f32) (r : Fin 512) (l : Fin 4096) :
    prodV A B (ix2 r l) = ∑ k : Fin 512, (A (ix2 r k) : EReal) * (B (ix2 k l) : EReal) := by
  refine (Ideal.matmul_plain_apply (M := 512) (K := 512) (N := 4096) (φ₁ := .f32) (φ₂ := .f32) none A B _ r l).trans ?_
  rw [show (constant (F := Ideal) S512x4096 .f32 0x00000000#32) (ix2 r l) = (0 : EReal) from Ideal.ofBits_zero_f32, zero_add]

/-- Adding up terms in any order of the list is adding the list's sum. -/
theorem foldl_apply (c : Dev nD) (L : List (Fin 16)) (o : FVec Ideal S512x4096 .f32) (i : S512x4096.Idx) :
    L.foldl (stepV X Wt c) o i = (o i + (L.map fun s => (termV X Wt c s i : EReal)).sum : EReal) := by
  induction L generalizing o with
  | nil => simp
  | cons s L ih =>
    rw [List.foldl_cons, ih, List.map_cons, List.sum_cons, ← add_assoc]
    rfl

/-- All sixteen slots, once each. -/
theorem sum_slots (f : Fin 16 → EReal) : f 0 + (slotList.map f).sum = ∑ s : Fin 16, f s := by
  have hn : (0 :: slotList).Nodup := by decide
  have hu : (0 :: slotList).toFinset = Finset.univ := by decide
  rw [← List.sum_cons, ← List.map_cons, ← hu, List.sum_toFinset f hn]

/-- Counting the slots from a device on is counting the devices. -/
theorem sum_ahead (c : Dev nD) (f : Dev nD → EReal) : ∑ s : Fin 16, f (c + s) = ∑ j : Dev nD, f j :=
  Function.Bijective.sum_comp (e := fun s : Fin 16 => c + s) (by revert c; decide +kernel) f

/-- The accumulated products of device `c` at row `r` and column `l`: the contraction over the devices' columns. -/
theorem acc_apply (c : Dev nD) (r : Fin 512) (l : Fin 4096) :
    slotList.foldl (stepV X Wt c) (termV X Wt c 0) (ix2 r l)
      = ∑ j : Dev nD, ∑ k : Fin 512,
        xEnt X j (ix2 (row c r) k)
          * wEnt Wt c (ix2 (row j k) l) := by
  rw [foldl_apply]
  refine (sum_slots fun s => (termV X Wt c s (ix2 r l) : EReal)).trans ?_
  refine Eq.trans ?_ (sum_ahead c _)
  refine Finset.sum_congr rfl fun s _ => ?_
  unfold termV
  rw [prodV_apply]
  refine Finset.sum_congr rfl fun k _ => ?_
  rw [blkVal_apply, wVal_apply]

/-! ## A device's block of the reference -/

variable (m : (ℓ : Loc nD τ sig) → Buf (Elt Ideal) ℓ)

/-- If each device holds its block of the columns of `A`, and `B` whole, it ends with its block of rows of the reference's
    result. -/
theorem outAt_block (A : FVec Ideal Cert.ReferenceIdeal.S8192x8192 .f32) (B : FVec Ideal Cert.ReferenceIdeal.S8192x4096 .f32)
    (hx : ∀ c : Dev nD, m ((c : Thread nD τ).loc main_arg0) = Layout.block ⟨2, ![8192, 512]⟩ ⟨2, ![8192, 8192]⟩ 1 16 c A)
    (hw : ∀ c : Dev nD, m ((c : Thread nD τ).loc main_arg1) = B) (c : Dev nD) :
    outAt m c = Layout.block ⟨2, ![512, 4096]⟩ ⟨2, ![8192, 4096]⟩ 0 16 c (refOut A B) := by
  funext i
  obtain ⟨r, l, rfl⟩ : ∃ (r : Fin 512) (l : Fin 4096), i = ix2 r l := ⟨i 0, i 1, eq_ix2 i⟩
  rw [Layout.block_apply, refOut_apply]
  refine (geluOf_apply _ _).trans (congrArg act ?_)
  rw [acc_apply]
  have hi : Layout.Tiles.idx (S := ⟨2, ![512, 4096]⟩) (T := ⟨2, ![8192, 4096]⟩) (a := 0) (k := 16) (by decide) c (ix2 r l)
      = ix2 (row c r) l := by
    funext a; apply Fin.ext
    match a with
    | ⟨0, _⟩ => rfl
    | ⟨1, _⟩ => rfl
  rw [hi, refDot_apply, Fin.sum_univ_tiles 16 512 rfl]
  refine Finset.sum_congr rfl fun j _ => Finset.sum_congr rfl fun k _ => ?_
  have h1 : xstg m j (ix2 (row c r) k)
      = A (ix2 (row c r)
          (row j k)) := by
    unfold xstg
    rw [read_xWin, hx j, Layout.block_apply]
    refine congrArg A (funext fun a => Fin.ext ?_)
    match a with
    | ⟨0, _⟩ => rfl
    | ⟨1, _⟩ => rfl
  have h2 : wArr m c = B := hw c
  exact congrArg₂ (fun a b : EReal => a * b) h1 (congrFun h2 _)

/-- The run with its value: each device ends with its block of the reference's result, its arguments as they were. -/
theorem run_value (ρ : Dev nD → PrngReg) (A : FVec Ideal Cert.ReferenceIdeal.S8192x8192 .f32) (B : FVec Ideal Cert.ReferenceIdeal.S8192x4096 .f32)
    (hx : ∀ c : Dev nD, m ((c : Thread nD τ).loc main_arg0) = Layout.block ⟨2, ![8192, 512]⟩ ⟨2, ![8192, 8192]⟩ 1 16 c A)
    (hw : ∀ c : Dev nD, m ((c : Thread nD τ).loc main_arg1) = B) :
    θ_run defs (onTc (τ := τ) (main (F := Ideal))) ⟨m, fun _ => 0, ρ⟩ (fun r => ∀ c : Dev nD,
      r.2.mem ((c : Thread nD τ).loc main_v1) = Layout.block ⟨2, ![512, 4096]⟩ ⟨2, ![8192, 4096]⟩ 0 16 c (refOut A B)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨((h.1 c).1 (1 : Fin 2)).trans ((finalA_out m c).trans (outAt_block m A B hx hw c)), ((h.1 c).1 (0 : Fin 2)).trans (finalA_x m c), (h.1 c).2⟩)
    (run_main m ρ)

end Cert.KernelIdeal.Proof

end
-- ==== Proof.lean ====
/-
  The five claims about the sixteen-device product `gelu (x @ w)`.

  Each device holds 512 columns of `x` and all of `w`, and ends with 512 rows of the result. It meets the others at a
  barrier, sends each of them one block of its columns, and accumulates the products of the blocks it receives with the
  matching rows of `w`. Proof/Program.lean says what one device runs, Proof/Schedule.lean which semaphore carries what,
  Steps, Local, Whole and Body verify that program, Mint and Run start the sixteen of them together, and Value compares what
  they leave with the reference. Proof/Bits/ holds the same run for the program over machine words.
-/
module

public import proofs.«01_k».proof.Defs
public import proofs.«01_k».proof.Proof.Bits.Run
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Over machine words every run of the kernel ends, its arguments as they were and every semaphore at zero; -/
theorem frame_kernel : Cert.quiescent_Kernel := fun m ρ _ => Cert.Kernel.Proof.run_frame (F := Bits) m ρ

/-- and so over the extended reals. -/
theorem frame_kernelIdeal : Cert.quiescent_KernelIdeal := fun m ρ _ => Cert.KernelIdeal.Proof.run_frame (F := Ideal) m ρ

/-- The reference ends, its arguments as they were; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From memories that agree — each device's columns of `x` its block of the whole, its weights the whole — device `c` ends
    with row block `c` of the reference's result. -/
theorem value : Cert.algebraic_KernelIdeal_ReferenceIdeal := fun m ρ m' ρ' _ hag =>
  ⟨Cert.KernelIdeal.Proof.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    Cert.KernelIdeal.Proof.run_value m ρ _ _ (fun c => (hag c).1) (fun c => (hag c).2),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
